-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S10000x128 : Shape := ⟨2, ![10000, 128]⟩
abbrev S2x320000 : Shape := ⟨2, ![2, 320000]⟩
abbrev S128x512 : Shape := ⟨2, ![128, 512]⟩
abbrev S8x64 : Shape := ⟨2, ![8, 64]⟩
abbrev S512 : Shape := ⟨1, ![512]⟩
abbrev S512x64 : Shape := ⟨2, ![512, 64]⟩
abbrev S1x64 : Shape := ⟨2, ![1, 64]⟩
abbrev S64 : Shape := ⟨1, ![64]⟩
abbrev S192x40 : Shape := ⟨2, ![192, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S8x64 : S_.BroadcastsInDim S8x64 (![] : Fin 0 → Fin S8x64.rank)
  reducesTo_S8x64_S_d0_1 : S8x64.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg8 : FVec F S1x64 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  main_v38

def fn_part1 {F : FTy → Type} [FloatOps F] (main_arg5 : FVec F S512 .f32) (main_arg6 : FVec F S512x64 .f32) (main_arg7 : FVec F S512x64 .f32) (main_arg8 : FVec F S1x64 .f32) (main_v13 : IVec S_ 1) (main_v16 : IVec S8x64 1) : IVec S_ 1 :=
  let main_c_5 : IVec S_ 1 := constantI S_ 1 1#1
  let main_v17 : IVec S_ 1 := (fun x v => Host.reduce IntOp.andi x v reducesTo_S8x64_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg6
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S512x64 .f32 := Host.absf main_arg7
  let main_cst_10 : FVec F S_ .f32 := constant S_ .f32 0x7F800000#32
  let main_v30 : FVec F S512x64 .f32 := broadcastInDim S512x64 ![] bcast_S_S512x64 main_cst_10
  let main_v31 : IVec S512x64 1 := cmpf .olt main_v29 main_v30
  let main_c_11 : IVec S_ 1 := constantI S_ 1 1#1
  let main_v32 : IVec S_ 1 := (fun x v => Host.reduce IntOp.andi x v reducesTo_S512x64_S_d0_1 h_S_) main_v31 main_c_11
  let main_v33 : IVec S_ 1 := andi main_v28 main_v32
  fn_part2 (F := F) main_arg8 main_v33

def fn {F : FTy → Type} [FloatOps F] (main_arg0 : FVec F S10000x128 .f32) (main_arg1 : IVec S2x320000 32) (main_arg2 : FVec F S128x512 .f32) (main_arg3 : FVec F S128x512 .f32) (main_arg4 : FVec F S8x64 .f32) (main_arg5 : FVec F S512 .f32) (main_arg6 : FVec F S512x64 .f32) (main_arg7 : FVec F S512x64 .f32) (main_arg8 : FVec F S1x64 .f32) (main_arg9 : FVec F S64 .f32) (main_arg10 : FVec F S192x40 .f32) (main_arg11 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S128x512 .f32 := Host.absf main_arg3
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S8x64 .f32 := Host.absf main_arg4
  let main_cst_4 : FVec F S_ .f32 := constant S_ .f32 0x7F800000#32
  let main_v15 : FVec F S8x64 .f32 := broadcastInDim S8x64 ![] bcast_S_S8x64 main_cst_4
  let main_v16 : IVec S8x64 1 := cmpf .olt main_v14 main_v15
  fn_part1 (F := F) main_arg5 main_arg6 main_arg7 main_arg8 main_v13 main_v16
-- ==== Kernel.lean ====
abbrev S10000x128 : Shape := ⟨2, ![10000, 128]⟩
abbrev S2x320000 : Shape := ⟨2, ![2, 320000]⟩
abbrev S128x512 : Shape := ⟨2, ![128, 512]⟩
abbrev S8x64 : Shape := ⟨2, ![8, 64]⟩
abbrev S512 : Shape := ⟨1, ![512]⟩
abbrev S512x64 : Shape := ⟨2, ![512, 64]⟩
abbrev S1x64 : Shape := ⟨2, ![1, 64]⟩
abbrev S64 : Shape := ⟨1, ![64]⟩
abbrev S192x40 : Shape := ⟨2, ![192, 40]⟩
abbrev S40 : Shape := ⟨1, ![40]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S10000x512 : Shape := ⟨2, ![10000, 512]⟩
abbrev S10000x8x64 : Shape := ⟨3, ![10000, 8, 64]⟩
abbrev S_ : Shape := ⟨0, ![]⟩
abbrev S330000x1 : Shape := ⟨2, ![330000, 1]⟩
abbrev S330000x8x64 : Shape := ⟨3, ![330000, 8, 64]⟩
abbrev S1x8x64 : Shape := ⟨3, ![1, 8, 64]⟩
abbrev S330000x8 : Shape := ⟨2, ![330000, 8]⟩
abbrev S330000x8x1 : Shape := ⟨3, ![330000, 8, 1]⟩
abbrev S10000x8 : Shape := ⟨2, ![10000, 8]⟩
abbrev S10000x8x1 : Shape := ⟨3, ![10000, 8, 1]⟩
abbrev S1x512 : Shape := ⟨2, ![1, 512]⟩
abbrev S10000x64 : Shape := ⟨2, ![10000, 64]⟩
abbrev S10000x1x64 : Shape := ⟨3, ![10000, 1, 64]⟩
abbrev S330000x1x64 : Shape := ⟨3, ![330000, 1, 64]⟩
abbrev S1x1x64 : Shape := ⟨3, ![1, 1, 64]⟩
abbrev S330000x1x1 : Shape := ⟨3, ![330000, 1, 1]⟩
abbrev S10000x1 : Shape := ⟨2, ![10000, 1]⟩
abbrev S10000x1x1 : Shape := ⟨3, ![10000, 1, 1]⟩
abbrev S10000x192 : Shape := ⟨2, ![10000, 192]⟩
abbrev S1x40 : Shape := ⟨2, ![1, 40]⟩
abbrev S10000x40 : Shape := ⟨2, ![10000, 40]⟩
abbrev S2000x192 : Shape := ⟨2, ![2000, 192]⟩
abbrev S2000x40 : Shape := ⟨2, ![2000, 40]⟩

abbrev nBuf : Space → Nat
  | .hbm => 162
  | .vmem => 6
  | .smem => 0
  | _ => 0

abbrev hbmTy0_0 (i : Nat) : BufTy := match i % 128 with
  | 0 => ⟨S10000x128, .f32⟩
  | 1 => ⟨S2x320000, .i32⟩
  | 2 => ⟨S128x512, .f32⟩
  | 3 => ⟨S128x512, .f32⟩
  | 4 => ⟨S8x64, .f32⟩
  | 5 => ⟨S512, .f32⟩
  | 6 => ⟨S512x64, .f32⟩
  | 7 => ⟨S512x64, .f32⟩
  | 8 => ⟨S1x64, .f32⟩
  | 9 => ⟨S64, .f32⟩
  | 10 => ⟨S192x40, .f32⟩
  | 11 => ⟨S40, .f32⟩
  | 12 => ⟨S10000, .i32⟩
  | 13 => ⟨S1x320000, .i32⟩
  | 14 => ⟨S320000, .i32⟩
  | 15 => ⟨S330000, .i32⟩
  | 16 => ⟨S1x320000, .i32⟩
  | 17 => ⟨S320000, .i32⟩
  | 18 => ⟨S330000, .i32⟩
  | 19 => ⟨S10000x512, .f32⟩
  | 20 => ⟨S10000x8x64, .f32⟩
  | 21 => ⟨S10000x512, .f32⟩
  | 22 => ⟨S10000x8x64, .f32⟩
  | 23 => ⟨S_, .i32⟩
  | 24 => ⟨S330000, .i32⟩
  | 25 => ⟨S330000, .i1⟩
  | 26 => ⟨S_, .i32⟩
  | 27 => ⟨S330000, .i32⟩
  | 28 => ⟨S330000, .i32⟩
  | 29 => ⟨S330000, .i32⟩
  | 30 => ⟨S330000x1, .i32⟩
  | 31 => ⟨S330000x8x64, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000x8x64, .f32⟩
  | 41 => ⟨S330000x8x64, .f32⟩
  | 42 => ⟨S_, .f32⟩
  | 43 => ⟨S_, .f32⟩
  | 44 => ⟨S330000x8x64, .f32⟩
  | 45 => ⟨S330000x8x64, .i1⟩
  | 46 => ⟨S_, .f32⟩
  | 47 => ⟨S330000x8x64, .f32⟩
  | 48 => ⟨S330000x8x64, .f32⟩
  | 49 => ⟨S330000x8x64, .f32⟩
  | 50 => ⟨S1x8x64, .f32⟩
  | 51 => ⟨S330000x8x64, .f32⟩
  | 52 => ⟨S330000x8x64, .f32⟩
  | 53 => ⟨S_, .f32⟩
  | 54 => ⟨S330000x8, .f32⟩
  | 55 => ⟨S330000x8, .f32⟩
  | 56 => ⟨S330000x8x1, .f32⟩
  | 57 => ⟨S330000x8x64, .f32⟩
  | 58 => ⟨S330000x8x64, .f32⟩
  | 59 => ⟨S_, .f32⟩
  | 60 => ⟨S10000x8x64, .f32⟩
  | 61 => ⟨S330000x1, .i32⟩
  | 62 => ⟨S10000x8x64, .f32⟩
  | 63 => ⟨S_, .f32⟩
  | 64 => ⟨S10000x8, .f32⟩
  | 65 => ⟨S330000x1, .i32⟩
  | 66 => ⟨S10000x8, .f32⟩
  | 67 => ⟨S10000x8x1, .f32⟩
  | 68 => ⟨S10000x8x64, .f32⟩
  | 69 => ⟨S10000x8x64, .f32⟩
  | 70 => ⟨S10000x512, .f32⟩
  | 71 => ⟨S1x512, .f32⟩
  | 72 => ⟨S10000x512, .f32⟩
  | 73 => ⟨S10000x512, .f32⟩
  | 74 => ⟨S_, .f32⟩
  | 75 => ⟨S10000x512, .f32⟩
  | 76 => ⟨S10000x512, .i1⟩
  | 77 => ⟨S_, .f32⟩
  | 78 => ⟨S10000x512, .f32⟩
  | 79 => ⟨S10000x512, .i1⟩
  | 80 => ⟨S_, .f32⟩
  | 81 => ⟨S_, .f32⟩
  | 82 => ⟨S10000x512, .f32⟩
  | 83 => ⟨S10000x512, .f32⟩
  | 84 => ⟨S10000x512, .f32⟩
  | 85 => ⟨S_, .f32⟩
  | 86 => ⟨S10000x512, .f32⟩
  | 87 => ⟨S10000x512, .f32⟩
  | 88 => ⟨S10000x512, .f32⟩
  | 89 => ⟨S10000x64, .f32⟩
  | 90 => ⟨S10000x1x64, .f32⟩
  | 91 => ⟨S10000x64, .f32⟩
  | 92 => ⟨S10000x1x64, .f32⟩
  | 93 => ⟨S_, .i32⟩
  | 94 => ⟨S330000, .i32⟩
  | 95 => ⟨S330000, .i1⟩
  | 96 => ⟨S_, .i32⟩
  | 97 => ⟨S330000, .i32⟩
  | 98 => ⟨S330000, .i32⟩
  | 99 => ⟨S330000, .i32⟩
  | 100 => ⟨S330000x1, .i32⟩
  | 101 => ⟨S330000x1x64, .f32⟩
  | 102 => ⟨S_, .i32⟩
  | 103 => ⟨S330000, .i32⟩
  | 104 => ⟨S330000, .i1⟩
  | 105 => ⟨S_, .i32⟩
  | 106 => ⟨S330000, .i32⟩
  | 107 => ⟨S330000, .i32⟩
  | 108 => ⟨S330000, .i32⟩
  | 109 => ⟨S330000x1, .i32⟩
  | 110 => ⟨S330000x1x64, .f32⟩
  | 111 => ⟨S330000x1x64, .f32⟩
  | 112 => ⟨S_, .f32⟩
  | 113 => ⟨S_, .f32⟩
  | 114 => ⟨S330000x1x64, .f32⟩
  | 115 => ⟨S330000x1x64, .i1⟩
  | 116 => ⟨S_, .f32⟩
  | 117 => ⟨S330000x1x64, .f32⟩
  | 118 => ⟨S330000x1x64, .f32⟩
  | 119 => ⟨S330000x1x64, .f32⟩
  | 120 => ⟨S1x1x64, .f32⟩
  | 121 => ⟨S330000x1x64, .f32⟩
  | 122 => ⟨S330000x1x64, .f32⟩
  | 123 => ⟨S_, .f32⟩
  | 124 => ⟨S330000x1, .f32⟩
  | 125 => ⟨S330000x1, .f32⟩
  | 126 => ⟨S330000x1x1, .f32⟩
  | 127 => ⟨S330000x1x64, .f32⟩
  | _ => ⟨S10000x128, .f32⟩

abbrev hbmTy0_1 (i : Nat) : BufTy := match i % 128 with
  | 0 => ⟨S330000x1x64, .f32⟩
  | 1 => ⟨S_, .f32⟩
  | 2 => ⟨S10000x1x64, .f32⟩
  | 3 => ⟨S330000x1, .i32⟩
  | 4 => ⟨S10000x1x64, .f32⟩
  | 5 => ⟨S_, .f32⟩
  | 6 => ⟨S10000x1, .f32⟩
  | 7 => ⟨S330000x1, .i32⟩
  | 8 => ⟨S10000x1, .f32⟩
  | 9 => ⟨S10000x1x1, .f32⟩
  | 10 => ⟨S10000x1x64, .f32⟩
  | 11 => ⟨S10000x1x64, .f32⟩
  | 12 => ⟨S10000x64, .f32⟩
  | 13 => ⟨S1x64, .f32⟩
  | 14 => ⟨S10000x64, .f32⟩
  | 15 => ⟨S10000x64, .f32⟩
  | 16 => ⟨S_, .f32⟩
  | 17 => ⟨S10000x64, .f32⟩
  | 18 => ⟨S10000x64, .i1⟩
  | 19 => ⟨S_, .f32⟩
  | 20 => ⟨S10000x64, .f32⟩
  | 21 => ⟨S10000x64, .i1⟩
  | 22 => ⟨S_, .f32⟩
  | 23 => ⟨S_, .f32⟩
  | 24 => ⟨S10000x64, .f32⟩
  | 25 => ⟨S10000x64, .f32⟩
  | 26 => ⟨S10000x64, .f32⟩
  | 27 => ⟨S_, .f32⟩
  | 28 => ⟨S10000x64, .f32⟩
  | 29 => ⟨S10000x64, .f32⟩
  | 30 => ⟨S10000x64, .f32⟩
  | 31 => ⟨S10000x192, .f32⟩
  | 32 => ⟨S1x40, .f32⟩
  | 33 => ⟨S10000x40, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | .local _ .vmem, ⟨0, _⟩ => ⟨S2000x192, .f32⟩
  | .local _ .vmem, ⟨1, _⟩ => ⟨S2000x192, .f32⟩
  | .local _ .vmem, ⟨2, _⟩ => ⟨S192x40, .f32⟩
  | .local _ .vmem, ⟨3, _⟩ => ⟨S1x40, .f32⟩
  | .local _ .vmem, ⟨4, _⟩ => ⟨S2000x40, .f32⟩
  | .local _ .vmem, ⟨5, _⟩ => ⟨S2000x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_4 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_cst_1 : Ref sig .tc := ⟨.hbm, 80, rfl⟩
abbrev main_call1_call0_v0 : Ref sig .tc := ⟨.hbm, 81, rfl⟩
abbrev main_call1_call0_v1 : Ref sig .tc := ⟨.hbm, 82, rfl⟩
abbrev main_call1_v4 : Ref sig .tc := ⟨.hbm, 83, rfl⟩
abbrev main_call1_v5 : Ref sig .tc := ⟨.hbm, 84, rfl⟩
abbrev main_call1_cst_2 : Ref sig .tc := ⟨.hbm, 85, rfl⟩
abbrev main_call1_v6 : Ref sig .tc := ⟨.hbm, 86, rfl⟩
abbrev main_call1_v7 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_c_6 : Ref sig .tc := ⟨.hbm, 93, rfl⟩
abbrev main_v53 : Ref sig .tc := ⟨.hbm, 94, rfl⟩
abbrev main_v54 : Ref sig .tc := ⟨.hbm, 95, rfl⟩
abbrev main_c_7 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_c_8 : Ref sig .tc := ⟨.hbm, 102, rfl⟩
abbrev main_v60 : Ref sig .tc := ⟨.hbm, 103, rfl⟩
abbrev main_v61 : Ref sig .tc := ⟨.hbm, 104, rfl⟩
abbrev main_c_9 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_10 : Ref sig .tc := ⟨.hbm, 112, rfl⟩
abbrev main_call2_cst : Ref sig .tc := ⟨.hbm, 113, rfl⟩
abbrev main_call2_v0 : Ref sig .tc := ⟨.hbm, 114, rfl⟩
abbrev main_call2_v1 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_11 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_cst_12 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_cst_13 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_call3_cst : Ref sig .tc := ⟨.hbm, 144, rfl⟩
abbrev main_call3_v0 : Ref sig .tc := ⟨.hbm, 145, rfl⟩
abbrev main_call3_v1 : Ref sig .tc := ⟨.hbm, 146, rfl⟩
abbrev main_call3_cst_0 : Ref sig .tc := ⟨.hbm, 147, rfl⟩
abbrev main_call3_v2 : Ref sig .tc := ⟨.hbm, 148, rfl⟩
abbrev main_call3_v3 : Ref sig .tc := ⟨.hbm, 149, rfl⟩
abbrev main_call3_cst_1 : Ref sig .tc := ⟨.hbm, 150, rfl⟩
abbrev main_call3_call0_v0 : Ref sig .tc := ⟨.hbm, 151, rfl⟩
abbrev main_call3_call0_v1 : Ref sig .tc := ⟨.hbm, 152, rfl⟩
abbrev main_call3_v4 : Ref sig .tc := ⟨.hbm, 153, rfl⟩
abbrev main_call3_v5 : Ref sig .tc := ⟨.hbm, 154, rfl⟩
abbrev main_call3_cst_2 : Ref sig .tc := ⟨.hbm, 155, rfl⟩
abbrev main_call3_v6 : Ref sig .tc := ⟨.hbm, 156, rfl⟩
abbrev main_call3_v7 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S10000x128 : Shape := ⟨2, ![10000, 128]⟩
abbrev S2x320000 : Shape := ⟨2, ![2, 320000]⟩
abbrev S128x512 : Shape := ⟨2, ![128, 512]⟩
abbrev S8x64 : Shape := ⟨2, ![8, 64]⟩
abbrev S512 : Shape := ⟨1, ![512]⟩
abbrev S512x64 : Shape := ⟨2, ![512, 64]⟩
abbrev S1x64 : Shape := ⟨2, ![1, 64]⟩
abbrev S64 : Shape := ⟨1, ![64]⟩
abbrev S192x40 : Shape := ⟨2, ![192, 40]⟩
abbrev S40 : Shape := ⟨1, ![40]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S10000x512 : Shape := ⟨2, ![10000, 512]⟩
abbrev S10000x8x64 : Shape := ⟨3, ![10000, 8, 64]⟩
abbrev S_ : Shape := ⟨0, ![]⟩
abbrev S330000x1 : Shape := ⟨2, ![330000, 1]⟩
abbrev S330000x8x64 : Shape := ⟨3, ![330000, 8, 64]⟩
abbrev S1x8x64 : Shape := ⟨3, ![1, 8, 64]⟩
abbrev S330000x8 : Shape := ⟨2, ![330000, 8]⟩
abbrev S1x330000 : Shape := ⟨2, ![1, 330000]⟩
abbrev S10000x1 : Shape := ⟨2, ![10000, 1]⟩
abbrev S10000x330000 : Shape := ⟨2, ![10000, 330000]⟩
abbrev S10000x330000x1 : Shape := ⟨3, ![10000, 330000, 1]⟩
abbrev S1x330000x8 : Shape := ⟨3, ![1, 330000, 8]⟩
abbrev S10000x330000x8 : Shape := ⟨3, ![10000, 330000, 8]⟩
abbrev S10000x8 : Shape := ⟨2, ![10000, 8]⟩
abbrev S330000x8x1 : Shape := ⟨3, ![330000, 8, 1]⟩
abbrev S1x512 : Shape := ⟨2, ![1, 512]⟩
abbrev S10000x64 : Shape := ⟨2, ![10000, 64]⟩
abbrev S10000x1x64 : Shape := ⟨3, ![10000, 1, 64]⟩
abbrev S330000x1x64 : Shape := ⟨3, ![330000, 1, 64]⟩
abbrev S1x1x64 : Shape := ⟨3, ![1, 1, 64]⟩
abbrev S1x330000x1 : Shape := ⟨3, ![1, 330000, 1]⟩
abbrev S330000x1x1 : Shape := ⟨3, ![330000, 1, 1]⟩
abbrev S10000x192 : Shape := ⟨2, ![10000, 192]⟩
abbrev S10000x40 : Shape := ⟨2, ![10000, 40]⟩
abbrev S1x40 : Shape := ⟨2, ![1, 40]⟩

abbrev nBuf : Space → Nat
  | .hbm => 245
  | .vmem => 0
  | .smem => 0
  | _ => 0

abbrev hbmTy0_0 (i : Nat) : BufTy := match i % 128 with
  | 0 => ⟨S10000x128, .f32⟩
  | 1 => ⟨S2x320000, .i32⟩
  | 2 => ⟨S128x512, .f32⟩
  | 3 => ⟨S128x512, .f32⟩
  | 4 => ⟨S8x64, .f32⟩
  | 5 => ⟨S512, .f32⟩
  | 6 => ⟨S512x64, .f32⟩
  | 7 => ⟨S512x64, .f32⟩
  | 8 => ⟨S1x64, .f32⟩
  | 9 => ⟨S64, .f32⟩
  | 10 => ⟨S192x40, .f32⟩
  | 11 => ⟨S40, .f32⟩
  | 12 => ⟨S10000, .i32⟩
  | 13 => ⟨S1x320000, .i32⟩
  | 14 => ⟨S320000, .i32⟩
  | 15 => ⟨S330000, .i32⟩
  | 16 => ⟨S1x320000, .i32⟩
  | 17 => ⟨S320000, .i32⟩
  | 18 => ⟨S330000, .i32⟩
  | 19 => ⟨S10000x512, .f32⟩
  | 20 => ⟨S10000x8x64, .f32⟩
  | 21 => ⟨S10000x512, .f32⟩
  | 22 => ⟨S10000x8x64, .f32⟩
  | 23 => ⟨S_, .i32⟩
  | 24 => ⟨S330000, .i32⟩
  | 25 => ⟨S330000, .i1⟩
  | 26 => ⟨S_, .i32⟩
  | 27 => ⟨S330000, .i32⟩
  | 28 => ⟨S330000, .i32⟩
  | 29 => ⟨S330000, .i32⟩
  | 30 => ⟨S330000x1, .i32⟩
  | 31 => ⟨S330000x8x64, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000x8x64, .f32⟩
  | 41 => ⟨S330000x8x64, .f32⟩
  | 42 => ⟨S_, .f32⟩
  | 43 => ⟨S_, .f32⟩
  | 44 => ⟨S330000x8x64, .f32⟩
  | 45 => ⟨S330000x8x64, .i1⟩
  | 46 => ⟨S_, .f32⟩
  | 47 => ⟨S330000x8x64, .f32⟩
  | 48 => ⟨S330000x8x64, .f32⟩
  | 49 => ⟨S330000x8x64, .f32⟩
  | 50 => ⟨S1x8x64, .f32⟩
  | 51 => ⟨S330000x8x64, .f32⟩
  | 52 => ⟨S330000x8x64, .f32⟩
  | 53 => ⟨S_, .f32⟩
  | 54 => ⟨S330000x8, .f32⟩
  | 55 => ⟨S1x330000, .i32⟩
  | 56 => ⟨S10000, .i32⟩
  | 57 => ⟨S10000x1, .i32⟩
  | 58 => ⟨S10000x330000, .i32⟩
  | 59 => ⟨S10000x330000, .i32⟩
  | 60 => ⟨S10000x330000, .i1⟩
  | 61 => ⟨S10000x330000x1, .i1⟩
  | 62 => ⟨S1x330000x8, .f32⟩
  | 63 => ⟨S_, .f32⟩
  | 64 => ⟨S_, .f32⟩
  | 65 => ⟨S10000x330000x8, .i1⟩
  | 66 => ⟨S10000x330000x8, .f32⟩
  | 67 => ⟨S10000x330000x8, .f32⟩
  | 68 => ⟨S10000x330000x8, .f32⟩
  | 69 => ⟨S_, .f32⟩
  | 70 => ⟨S10000x8, .f32⟩
  | 71 => ⟨S10000x8, .f32⟩
  | 72 => ⟨S_, .f32⟩
  | 73 => ⟨S10000x8, .f32⟩
  | 74 => ⟨S10000x8, .i1⟩
  | 75 => ⟨S_, .f32⟩
  | 76 => ⟨S_, .f32⟩
  | 77 => ⟨S10000x8, .f32⟩
  | 78 => ⟨S10000x8, .f32⟩
  | 79 => ⟨S_, .i32⟩
  | 80 => ⟨S330000, .i32⟩
  | 81 => ⟨S330000, .i1⟩
  | 82 => ⟨S_, .i32⟩
  | 83 => ⟨S330000, .i32⟩
  | 84 => ⟨S330000, .i32⟩
  | 85 => ⟨S330000, .i32⟩
  | 86 => ⟨S330000x1, .i32⟩
  | 87 => ⟨S330000x8, .f32⟩
  | 88 => ⟨S330000x8, .f32⟩
  | 89 => ⟨S330000x8, .f32⟩
  | 90 => ⟨S_, .f32⟩
  | 91 => ⟨S10000x8, .f32⟩
  | 92 => ⟨S330000x1, .i32⟩
  | 93 => ⟨S10000x8, .f32⟩
  | 94 => ⟨S_, .i32⟩
  | 95 => ⟨S330000, .i32⟩
  | 96 => ⟨S330000, .i1⟩
  | 97 => ⟨S_, .i32⟩
  | 98 => ⟨S330000, .i32⟩
  | 99 => ⟨S330000, .i32⟩
  | 100 => ⟨S330000, .i32⟩
  | 101 => ⟨S330000x1, .i32⟩
  | 102 => ⟨S330000x8, .f32⟩
  | 103 => ⟨S330000x8, .f32⟩
  | 104 => ⟨S330000x8x1, .f32⟩
  | 105 => ⟨S330000x8x64, .f32⟩
  | 106 => ⟨S330000x8x64, .f32⟩
  | 107 => ⟨S_, .f32⟩
  | 108 => ⟨S10000x8x64, .f32⟩
  | 109 => ⟨S330000x1, .i32⟩
  | 110 => ⟨S10000x8x64, .f32⟩
  | 111 => ⟨S10000x512, .f32⟩
  | 112 => ⟨S1x512, .f32⟩
  | 113 => ⟨S10000x512, .f32⟩
  | 114 => ⟨S10000x512, .f32⟩
  | 115 => ⟨S_, .f32⟩
  | 116 => ⟨S10000x512, .f32⟩
  | 117 => ⟨S10000x512, .i1⟩
  | 118 => ⟨S_, .f32⟩
  | 119 => ⟨S10000x512, .f32⟩
  | 120 => ⟨S10000x512, .i1⟩
  | 121 => ⟨S_, .f32⟩
  | 122 => ⟨S_, .f32⟩
  | 123 => ⟨S10000x512, .f32⟩
  | 124 => ⟨S10000x512, .f32⟩
  | 125 => ⟨S10000x512, .f32⟩
  | 126 => ⟨S_, .f32⟩
  | 127 => ⟨S10000x512, .f32⟩
  | _ => ⟨S10000x128, .f32⟩

abbrev hbmTy0_1 (i : Nat) : BufTy := match i % 128 with
  | 0 => ⟨S10000x512, .f32⟩
  | 1 => ⟨S10000x512, .f32⟩
  | 2 => ⟨S10000x64, .f32⟩
  | 3 => ⟨S10000x1x64, .f32⟩
  | 4 => ⟨S10000x64, .f32⟩
  | 5 => ⟨S10000x1x64, .f32⟩
  | 6 => ⟨S_, .i32⟩
  | 7 => ⟨S330000, .i32⟩
  | 8 => ⟨S330000, .i1⟩
  | 9 => ⟨S_, .i32⟩
  | 10 => ⟨S330000, .i32⟩
  | 11 => ⟨S330000, .i32⟩
  | 12 => ⟨S330000, .i32⟩
  | 13 => ⟨S330000x1, .i32⟩
  | 14 => ⟨S330000x1x64, .f32⟩
  | 15 => ⟨S_, .i32⟩
  | 16 => ⟨S330000, .i32⟩
  | 17 => ⟨S330000, .i1⟩
  | 18 => ⟨S_, .i32⟩
  | 19 => ⟨S330000, .i32⟩
  | 20 => ⟨S330000, .i32⟩
  | 21 => ⟨S330000, .i32⟩
  | 22 => ⟨S330000x1, .i32⟩
  | 23 => ⟨S330000x1x64, .f32⟩
  | 24 => ⟨S330000x1x64, .f32⟩
  | 25 => ⟨S_, .f32⟩
  | 26 => ⟨S_, .f32⟩
  | 27 => ⟨S330000x1x64, .f32⟩
  | 28 => ⟨S330000x1x64, .i1⟩
  | 29 => ⟨S_, .f32⟩
  | 30 => ⟨S330000x1x64, .f32⟩
  | 31 => ⟨S330000x1x64, .f32⟩
  | 32 => ⟨S330000x1x64, .f32⟩
  | 33 => ⟨S1x1x64, .f32⟩
  | 34 => ⟨S330000x1x64, .f32⟩
  | 35 => ⟨S330000x1x64, .f32⟩
  | 36 => ⟨S_, .f32⟩
  | 37 => ⟨S330000x1, .f32⟩
  | 38 => ⟨S1x330000, .i32⟩
  | 39 => ⟨S10000, .i32⟩
  | 40 => ⟨S10000x1, .i32⟩
  | 41 => ⟨S10000x330000, .i32⟩
  | 42 => ⟨S10000x330000, .i32⟩
  | 43 => ⟨S10000x330000, .i1⟩
  | 44 => ⟨S10000x330000x1, .i1⟩
  | 45 => ⟨S1x330000x1, .f32⟩
  | 46 => ⟨S_, .f32⟩
  | 47 => ⟨S_, .f32⟩
  | 48 => ⟨S10000x330000x1, .f32⟩
  | 49 => ⟨S10000x330000x1, .f32⟩
  | 50 => ⟨S10000x330000x1, .f32⟩
  | 51 => ⟨S_, .f32⟩
  | 52 => ⟨S10000x1, .f32⟩
  | 53 => ⟨S10000x1, .f32⟩
  | 54 => ⟨S_, .f32⟩
  | 55 => ⟨S10000x1, .f32⟩
  | 56 => ⟨S10000x1, .i1⟩
  | 57 => ⟨S_, .f32⟩
  | 58 => ⟨S_, .f32⟩
  | 59 => ⟨S10000x1, .f32⟩
  | 60 => ⟨S10000x1, .f32⟩
  | 61 => ⟨S_, .i32⟩
  | 62 => ⟨S330000, .i32⟩
  | 63 => ⟨S330000, .i1⟩
  | 64 => ⟨S_, .i32⟩
  | 65 => ⟨S330000, .i32⟩
  | 66 => ⟨S330000, .i32⟩
  | 67 => ⟨S330000, .i32⟩
  | 68 => ⟨S330000x1, .i32⟩
  | 69 => ⟨S330000x1, .f32⟩
  | 70 => ⟨S330000x1, .f32⟩
  | 71 => ⟨S330000x1, .f32⟩
  | 72 => ⟨S_, .f32⟩
  | 73 => ⟨S10000x1, .f32⟩
  | 74 => ⟨S330000x1, .i32⟩
  | 75 => ⟨S10000x1, .f32⟩
  | 76 => ⟨S_, .i32⟩
  | 77 => ⟨S330000, .i32⟩
  | 78 => ⟨S330000, .i1⟩
  | 79 => ⟨S_, .i32⟩
  | 80 => ⟨S330000, .i32⟩
  | 81 => ⟨S330000, .i32⟩
  | 82 => ⟨S330000, .i32⟩
  | 83 => ⟨S330000x1, .i32⟩
  | 84 => ⟨S330000x1, .f32⟩
  | 85 => ⟨S330000x1, .f32⟩
  | 86 => ⟨S330000x1x1, .f32⟩
  | 87 => ⟨S330000x1x64, .f32⟩
  | 88 => ⟨S330000x1x64, .f32⟩
  | 89 => ⟨S_, .f32⟩
  | 90 => ⟨S10000x1x64, .f32⟩
  | 91 => ⟨S330000x1, .i32⟩
  | 92 => ⟨S10000x1x64, .f32⟩
  | 93 => ⟨S10000x64, .f32⟩
  | 94 => ⟨S1x64, .f32⟩
  | 95 => ⟨S10000x64, .f32⟩
  | 96 => ⟨S10000x64, .f32⟩
  | 97 => ⟨S_, .f32⟩
  | 98 => ⟨S10000x64, .f32⟩
  | 99 => ⟨S10000x64, .i1⟩
  | 100 => ⟨S_, .f32⟩
  | 101 => ⟨S10000x64, .f32⟩
  | 102 => ⟨S10000x64, .i1⟩
  | 103 => ⟨S_, .f32⟩
  | 104 => ⟨S_, .f32⟩
  | 105 => ⟨S10000x64, .f32⟩
  | 106 => ⟨S10000x64, .f32⟩
  | 107 => ⟨S10000x64, .f32⟩
  | 108 => ⟨S_, .f32⟩
  | 109 => ⟨S10000x64, .f32⟩
  | 110 => ⟨S10000x64, .f32⟩
  | 111 => ⟨S10000x64, .f32⟩
  | 112 => ⟨S10000x192, .f32⟩
  | 113 => ⟨S10000x40, .f32⟩
  | 114 => ⟨S1x40, .f32⟩
  | 115 => ⟨S10000x40, .f32⟩
  | 116 => ⟨S10000x40, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_1 : Ref sig .tc := ⟨.hbm, 32, rfl⟩
abbrev main_v18 : Ref sig .tc := ⟨.hbm, 33, rfl⟩
abbrev main_v19 : Ref sig .tc := ⟨.hbm, 34, rfl⟩
abbrev main_c_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_3 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_4 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_call1_v3 : Ref sig .tc := ⟨.hbm, 67, rfl⟩
abbrev main_v39 : Ref sig .tc := ⟨.hbm, 68, rfl⟩
abbrev main_cst_5 : Ref sig .tc := ⟨.hbm, 69, rfl⟩
abbrev main_v40 : Ref sig .tc := ⟨.hbm, 70, rfl⟩
abbrev main_v41 : Ref sig .tc := ⟨.hbm, 71, rfl⟩
abbrev main_cst_6 : Ref sig .tc := ⟨.hbm, 72, rfl⟩
abbrev main_v42 : Ref sig .tc := ⟨.hbm, 73, rfl⟩
abbrev main_v43 : Ref sig .tc := ⟨.hbm, 74, rfl⟩
abbrev main_cst_7 : Ref sig .tc := ⟨.hbm, 75, rfl⟩
abbrev main_call2_v0 : Ref sig .tc := ⟨.hbm, 76, rfl⟩
abbrev main_call2_v1 : Ref sig .tc := ⟨.hbm, 77, rfl⟩
abbrev main_v44 : Ref sig .tc := ⟨.hbm, 78, rfl⟩
abbrev main_c_8 : Ref sig .tc := ⟨.hbm, 79, rfl⟩
abbrev main_v45 : Ref sig .tc := ⟨.hbm, 80, rfl⟩
abbrev main_v46 : Ref sig .tc := ⟨.hbm, 81, rfl⟩
abbrev main_c_9 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_cst_10 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_c_11 : Ref sig .tc := ⟨.hbm, 94, rfl⟩
abbrev main_v57 : Ref sig .tc := ⟨.hbm, 95, rfl⟩
abbrev main_v58 : Ref sig .tc := ⟨.hbm, 96, rfl⟩
abbrev main_c_12 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_13 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_call3_cst : Ref sig .tc := ⟨.hbm, 115, rfl⟩
abbrev main_call3_v0 : Ref sig .tc := ⟨.hbm, 116, rfl⟩
abbrev main_call3_v1 : Ref sig .tc := ⟨.hbm, 117, rfl⟩
abbrev main_call3_cst_0 : Ref sig .tc := ⟨.hbm, 118, rfl⟩
abbrev main_call3_v2 : Ref sig .tc := ⟨.hbm, 119, rfl⟩
abbrev main_call3_v3 : Ref sig .tc := ⟨.hbm, 120, rfl⟩
abbrev main_call3_cst_1 : Ref sig .tc := ⟨.hbm, 121, rfl⟩
abbrev main_call3_call0_v0 : Ref sig .tc := ⟨.hbm, 122, rfl⟩
abbrev main_call3_call0_v1 : Ref sig .tc := ⟨.hbm, 123, rfl⟩
abbrev main_call3_v4 : Ref sig .tc := ⟨.hbm, 124, rfl⟩
abbrev main_call3_v5 : Ref sig .tc := ⟨.hbm, 125, rfl⟩
abbrev main_call3_cst_2 : Ref sig .tc := ⟨.hbm, 126, rfl⟩
abbrev main_call3_v6 : Ref sig .tc := ⟨.hbm, 127, rfl⟩
abbrev main_call3_v7 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_c_14 : Ref sig .tc := ⟨.hbm, 134, rfl⟩
abbrev main_v80 : Ref sig .tc := ⟨.hbm, 135, rfl⟩
abbrev main_v81 : Ref sig .tc := ⟨.hbm, 136, rfl⟩
abbrev main_c_15 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_c_16 : Ref sig .tc := ⟨.hbm, 143, rfl⟩
abbrev main_v87 : Ref sig .tc := ⟨.hbm, 144, rfl⟩
abbrev main_v88 : Ref sig .tc := ⟨.hbm, 145, rfl⟩
abbrev main_c_17 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_cst_18 : Ref sig .tc := ⟨.hbm, 153, rfl⟩
abbrev main_call4_cst : Ref sig .tc := ⟨.hbm, 154, rfl⟩
abbrev main_call4_v0 : Ref sig .tc := ⟨.hbm, 155, rfl⟩
abbrev main_call4_v1 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_cst_19 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_cst_20 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_v108 : Ref sig .tc := ⟨.hbm, 178, rfl⟩
abbrev main_cst_21 : Ref sig .tc := ⟨.hbm, 179, rfl⟩
abbrev main_v109 : Ref sig .tc := ⟨.hbm, 180, rfl⟩
abbrev main_v110 : Ref sig .tc := ⟨.hbm, 181, rfl⟩
abbrev main_cst_22 : Ref sig .tc := ⟨.hbm, 182, rfl⟩
abbrev main_v111 : Ref sig .tc := ⟨.hbm, 183, rfl⟩
abbrev main_v112 : Ref sig .tc := ⟨.hbm, 184, rfl⟩
abbrev main_cst_23 : Ref sig .tc := ⟨.hbm, 185, rfl⟩
abbrev main_call6_v0 : Ref sig .tc := ⟨.hbm, 186, rfl⟩
abbrev main_call6_v1 : Ref sig .tc := ⟨.hbm, 187, rfl⟩
abbrev main_v113 : Ref sig .tc := ⟨.hbm, 188, rfl⟩
abbrev main_c_24 : Ref sig .tc := ⟨.hbm, 189, rfl⟩
abbrev main_v114 : Ref sig .tc := ⟨.hbm, 190, rfl⟩
abbrev main_v115 : Ref sig .tc := ⟨.hbm, 191, rfl⟩
abbrev main_c_25 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_cst_26 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_c_27 : Ref sig .tc := ⟨.hbm, 204, rfl⟩
abbrev main_v126 : Ref sig .tc := ⟨.hbm, 205, rfl⟩
abbrev main_v127 : Ref sig .tc := ⟨.hbm, 206, rfl⟩
abbrev main_c_28 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_v132 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_cst_29 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_call7_cst : Ref sig .tc := ⟨.hbm, 225, rfl⟩
abbrev main_call7_v0 : Ref sig .tc := ⟨.hbm, 226, rfl⟩
abbrev main_call7_v1 : Ref sig .tc := ⟨.hbm, 227, rfl⟩
abbrev main_call7_cst_0 : Ref sig .tc := ⟨.hbm, 228, rfl⟩
abbrev main_call7_v2 : Ref sig .tc := ⟨.hbm, 229, rfl⟩
abbrev main_call7_v3 : Ref sig .tc := ⟨.hbm, 230, rfl⟩
abbrev main_call7_cst_1 : Ref sig .tc := ⟨.hbm, 231, rfl⟩
abbrev main_call7_call0_v0 : Ref sig .tc := ⟨.hbm, 232, rfl⟩
abbrev main_call7_call0_v1 : Ref sig .tc := ⟨.hbm, 233, rfl⟩
abbrev main_call7_v4 : Ref sig .tc := ⟨.hbm, 234, rfl⟩
abbrev main_call7_v5 : Ref sig .tc := ⟨.hbm, 235, rfl⟩
abbrev main_call7_cst_2 : Ref sig .tc := ⟨.hbm, 236, rfl⟩
abbrev main_call7_v6 : Ref sig .tc := ⟨.hbm, 237, rfl⟩
abbrev main_call7_v7 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩

abbrev nD : Nat := 1
abbrev τ : Topo := Topo.v7x

variable {F : FTy → Type} [FloatOps F]
-- ==== Proof.Reals.lean ====
/- Arrays whose elements are real numbers, and the one equation of the attention layer: a quotient of two sums of
   exponentials does not change when the same real number is taken from every exponent. -/
module

public import Idealize.ShloMosaic.PureOps.Ideal.Laws
public import Idealize.ShloMosaic.Lib.IdealHost
public import Idealize.ShloMosaic.PureOps

@[expose] public section

noncomputable section

namespace Cert.Attn

open Idealize.ShloMosaic

/-- The extended real is a real number. -/
def IsReal (x : EReal) : Prop := ∃ r : ℝ, x = (r : EReal)

/-- Every element of the array is a real number. -/
def AllReal {ι : Type} (v : ι → EReal) : Prop := ∀ i, IsReal (v i)

/-- A real number, read among the extended reals, is one. -/
theorem IsReal.coe (r : ℝ) : IsReal (r : EReal) := ⟨r, rfl⟩

/-- Zero is a real number. -/
theorem IsReal.zero : IsReal 0 := ⟨0, EReal.coe_zero.symm⟩

/-- A sum of two real numbers is one. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- A product of two real numbers is one. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers, taken among the extended reals, is the sum taken among the reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of real numbers is a real number. -/
theorem IsReal.sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

/-- The difference `exp x - 1` of a real number is a real number. -/
theorem IsReal.expm1 {x : EReal} (hx : IsReal x) : IsReal (Ideal.exp x - 1) := by
  obtain ⟨a, rfl⟩ := hx
  exact ⟨Real.exp a - 1, by rw [EReal.coe_sub]; rfl⟩

/-- What is smaller in absolute value than `+∞` is a real number. -/
theorem IsReal.of_abs_lt {x : EReal} (h : max x (-x) < ⊤) : IsReal x := by
  induction x using EReal.rec with
  | bot => simp at h
  | coe r => exact ⟨r, rfl⟩
  | top => simp at h

/-- A quotient of real numbers whose divisor is not zero is the reals' quotient. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A weighted sum of exponentials over a sum of exponentials, against the same with a real number `m` taken from every
    exponent and the division inside the sum; and the value is a real number. -/
theorem weights_eq {ι κ : Type} (s : Finset ι) (t : Finset κ) (ht : t.Nonempty) (x a : ι → ℝ) (b : κ → ℝ) (m : ℝ) :
    Ideal.div (0 + ∑ i ∈ s, (x i : EReal) * Ideal.exp (a i)) (0 + ∑ k ∈ t, Ideal.exp (b k))
        = 0 + ∑ i ∈ s, (x i : EReal) * Ideal.div (Ideal.exp ((a i : EReal) - m)) (0 + ∑ k ∈ t, Ideal.exp ((b k : EReal) - m))
      ∧ IsReal (Ideal.div (0 + ∑ i ∈ s, (x i : EReal) * Ideal.exp (a i)) (0 + ∑ k ∈ t, Ideal.exp (b k))) := by
  have hexp : ∀ r : ℝ, Ideal.exp (r : EReal) = ((Real.exp r : ℝ) : EReal) := fun _ => rfl
  have hexp' : ∀ r : ℝ, Ideal.exp ((r : EReal) - m) = ((Real.exp (r - m) : ℝ) : EReal) := fun r => by
    rw [← EReal.coe_sub]; rfl
  have hD : 0 < ∑ k ∈ t, Real.exp (b k) := Finset.sum_pos (fun k _ => Real.exp_pos _) ht
  have hD' : ∑ k ∈ t, Real.exp (b k - m) = (∑ k ∈ t, Real.exp (b k)) * Real.exp (-m) := by
    rw [Finset.sum_mul]
    exact Finset.sum_congr rfl fun k _ => by rw [← Real.exp_add, sub_eq_add_neg]
  have hD0 : ∑ k ∈ t, Real.exp (b k - m) ≠ 0 := by
    rw [hD']; exact (mul_pos hD (Real.exp_pos _)).ne'
  have hL : Ideal.div (0 + ∑ i ∈ s, (x i : EReal) * Ideal.exp (a i)) (0 + ∑ k ∈ t, Ideal.exp (b k))
      = (((∑ i ∈ s, x i * Real.exp (a i)) / ∑ k ∈ t, Real.exp (b k) : ℝ) : EReal) := by
    simp only [hexp, ← EReal.coe_mul, coe_sum, zero_add]
    exact div_real _ _ hD.ne'
  refine ⟨?_, hL ▸ IsReal.coe _⟩
  rw [hL]
  simp only [hexp', coe_sum, zero_add, div_real _ _ hD0, ← EReal.coe_mul]
  refine congrArg _ ?_
  rw [hD', Finset.sum_div]
  refine Finset.sum_congr rfl fun i _ => ?_
  rw [sub_eq_add_neg, Real.exp_add, mul_div_assoc, mul_div_mul_right _ _ (Real.exp_pos _).ne']

/-- The attention layer's aggregation, both ways. The edges `u` of the large array and `v` of the small one are added
    into the nodes their index words name (`d3`, `d2`); `p` and `q` forget the channel; `g v` is the node at which edge
    `v` reads back. Where reading back gives the node an edge is added into (`h3`, `h2`), and every node has an edge
    (`hne`), the sum of `xj · exp al` over the sum of `exp al` is the sum of `xj` times the normalized shifted
    exponential, whatever real shifts `mx` are taken; and it is a real number. -/
theorem layer_agree {s3 s2 si u3 u2 : Shape} {w : Nat} (d3 : ScatterDims s3 si u3) (d2 : ScatterDims s2 si u2)
    (idx : IVec si w) (p : u3.Idx → u2.Idx) (q : s3.Idx → s2.Idx) (g : u2.Idx → s2.Idx)
    (h3 : ∀ u j, d3.resultIdx? u idx = some j → g (p u) = q j)
    (h2 : ∀ v j, d2.resultIdx? v idx = some j → g v = j)
    (hne : ∀ j, ∃ v, d2.resultIdx? v idx = some j)
    (xj pr pm wt : FVec Ideal u3 .f32) (al ek er : FVec Ideal u2 .f32) (mx z2 : FVec Ideal s2 .f32) (z3 : FVec Ideal s3 .f32)
    (hx : AllReal xj) (hal : AllReal al) (hmx : AllReal mx) (hz3 : ∀ j, z3 j = 0) (hz2 : ∀ j, z2 j = 0)
    (hpr : ∀ u, pr u = xj u * Ideal.exp (al (p u))) (hek : ∀ v, ek v = Ideal.exp (al v))
    (her : ∀ v, er v = Ideal.exp (al v - mx (g v)))
    (hwt : ∀ u, wt u = Ideal.div (er (p u)) (Host.scatterAdd d2 z2 idx er (g (p u))))
    (hpm : ∀ u, pm u = xj u * wt u) (j : s3.Idx) :
    Ideal.div (Host.scatterAdd d3 z3 idx pr j) (Host.scatterAdd d2 z2 idx ek (q j)) = Host.scatterAdd d3 z3 idx pm j
      ∧ IsReal (Host.scatterAdd d3 z3 idx pm j) := by
  choose X hX using hx
  choose A hA using hal
  choose M hM using hmx
  have hT : (Finset.univ.filter fun v => d2.resultIdx? v idx = some (q j)).Nonempty := by
    obtain ⟨v, hv⟩ := hne (q j)
    exact ⟨v, Finset.mem_filter.2 ⟨Finset.mem_univ _, hv⟩⟩
  have key := weights_eq (Finset.univ.filter fun u => d3.resultIdx? u idx = some j)
    (Finset.univ.filter fun v => d2.resultIdx? v idx = some (q j)) hT X (fun u => A (p u)) A (M (q j))
  have e3 : Host.scatterAdd d3 z3 idx pr j
      = 0 + ∑ u ∈ Finset.univ.filter (fun u => d3.resultIdx? u idx = some j), (X u : EReal) * Ideal.exp (A (p u)) := by
    show z3 j + ∑ u ∈ Finset.univ.filter (fun u => d3.resultIdx? u idx = some j), pr u = _
    rw [hz3]
    exact congrArg _ (Finset.sum_congr rfl fun u _ => by rw [hpr, hX, hA])
  have e2 : Host.scatterAdd d2 z2 idx ek (q j)
      = 0 + ∑ v ∈ Finset.univ.filter (fun v => d2.resultIdx? v idx = some (q j)), Ideal.exp (A v) := by
    show z2 (q j) + ∑ v ∈ Finset.univ.filter (fun v => d2.resultIdx? v idx = some (q j)), ek v = _
    rw [hz2]
    exact congrArg _ (Finset.sum_congr rfl fun v _ => by rw [hek, hA])
  have er2 : Host.scatterAdd d2 z2 idx er (q j)
      = 0 + ∑ v ∈ Finset.univ.filter (fun v => d2.resultIdx? v idx = some (q j)), Ideal.exp ((A v : EReal) - M (q j)) := by
    show z2 (q j) + ∑ v ∈ Finset.univ.filter (fun v => d2.resultIdx? v idx = some (q j)), er v = _
    rw [hz2]
    refine congrArg _ (Finset.sum_congr rfl fun v hv => ?_)
    rw [her, hA, h2 v (q j) (Finset.mem_filter.1 hv).2, hM]
  have em : Host.scatterAdd d3 z3 idx pm j
      = 0 + ∑ u ∈ Finset.univ.filter (fun u => d3.resultIdx? u idx = some j), (X u : EReal)
          * Ideal.div (Ideal.exp ((A (p u) : EReal) - M (q j)))
              (0 + ∑ v ∈ Finset.univ.filter (fun v => d2.resultIdx? v idx = some (q j)), Ideal.exp ((A v : EReal) - M (q j))) := by
    show z3 j + ∑ u ∈ Finset.univ.filter (fun u => d3.resultIdx? u idx = some j), pm u = _
    rw [hz3]
    refine congrArg _ (Finset.sum_congr rfl fun u hu => ?_)
    rw [hpm, hwt, h3 u j (Finset.mem_filter.1 hu).2, er2, her, h3 u j (Finset.mem_filter.1 hu).2, hX, hA, hM]
  rw [e3, e2, em]
  exact ⟨key.1, key.1 ▸ key.2⟩

end Cert.Attn

end
-- ==== Proof.Finite.lean ====
/- The array operations of the two programs keep arrays of real numbers: one lemma for each operation. -/
module

public import proofs.«01_k».proof.Proof.Reals
public import Idealize.ShloMosaic.Lib.ReduceAll
public import Idealize.ShloMosaic.Lib.Pipeline.Value

@[expose] public section

noncomputable section

namespace Cert.Attn

open Idealize.ShloMosaic Idealize.ShloMosaic.ValueIdx

variable {s t u : Shape}

/-- A broadcast of real numbers holds real numbers. -/
theorem AllReal.bcast {x : FVec Ideal s .f32} (hx : AllReal x) (dims : Fin s.rank → Fin t.rank) (h : s.BroadcastsInDim t dims) :
    AllReal (broadcastInDim t dims h x) := fun _ => hx _

/-- A reshape of real numbers holds real numbers. -/
theorem AllReal.reshape {x : FVec Ideal s .f32} (hx : AllReal x) (h : s.ShapeCasts t) : AllReal (shapeCast t x h) := fun _ => hx _

/-- A gather from real numbers holds real numbers, whatever the indices are. -/
theorem AllReal.gather {w : Nat} (d : GatherDims s u t) {x : FVec Ideal s .f32} (hx : AllReal x) (idx : IVec u w) :
    AllReal (Host.gather d x idx) := fun _ => hx _

/-- The sum of two arrays of real numbers. -/
theorem AllReal.add {x y : FVec Ideal s .f32} (hx : AllReal x) (hy : AllReal y) : AllReal (addf x y) := fun i => (hx i).add (hy i)

/-- The product of two arrays of real numbers. -/
theorem AllReal.mul {x y : FVec Ideal s .f32} (hx : AllReal x) (hy : AllReal y) : AllReal (mulf x y) := fun i => (hx i).mul (hy i)

/-- A choice between two arrays of real numbers. -/
theorem AllReal.select (p : IVec s 1) {x y : FVec Ideal s .f32} (hx : AllReal x) (hy : AllReal y) :
    AllReal (Idealize.ShloMosaic.select p x y) := fun i => by
  show IsReal (if p i = 1 then x i else y i)
  split
  exacts [hx i, hy i]

/-- The exponential less one of real numbers. -/
theorem AllReal.expm1 {x : FVec Ideal s .f32} (hx : AllReal x) : AllReal (Host.expm1 x) := fun i => (hx i).expm1

/-- A contraction of real numbers. -/
theorem AllReal.dot {d : DotDims s u t} {x : FVec Ideal s .f32} {y : FVec Ideal u .f32} (hx : AllReal x) (hy : AllReal y) :
    AllReal (Host.dotGeneral d none x y) := fun _ => IsReal.add .zero (IsReal.sum _ _ fun _ => (hx _).mul (hy _))

/-- A sum over axes of real numbers, from a real initial value. -/
theorem AllReal.reduceAdd {axes : List (Fin s.rank)} {x : FVec Ideal s .f32} {z : FVec Ideal u .f32} (hx : AllReal x) (hz : AllReal z)
    (h : s.ReducesTo axes t) (hu : 0 < u.numel) : AllReal (Host.reduceAdd x z h hu) := fun _ =>
  IsReal.add (hz _) (IsReal.sum _ _ fun _ => hx _)

/-- The constant zero. -/
theorem real_zero : AllReal (constant (F := Ideal) s .f32 0x00000000#32) := fun _ => ⟨0, by
  show Ideal.ofBits .f32 0x00000000#32 = _; rw [Ideal.ofBits_zero_f32]; rfl⟩

/-- The constant one. -/
theorem real_one : AllReal (constant (F := Ideal) s .f32 0x3F800000#32) := fun _ => ⟨1, by
  show Ideal.ofBits .f32 0x3F800000#32 = _; rw [Ideal.ofBits_one_f32]; rfl⟩

/-- The constant of the leaky activation, the single-precision number nearest to one fifth. -/
theorem real_slope : AllReal (constant (F := Ideal) s .f32 0x3E4CCCCD#32) := fun _ => ⟨_, by
  show Ideal.ofBits .f32 0x3E4CCCCD#32 = _; simp [Ideal.ofBits, Ideal.ieee, -EReal.coe_mul]; rfl⟩

/-- The word the programs compare against is the infinity. -/
theorem top_word : Ideal.ofBits .f32 0x7F800000#32 = ⊤ := by simp [Ideal.ofBits, Ideal.ieee]

/-- Where the comparison of the absolute value with infinity holds, the element is a real number. -/
theorem real_of_lt {x : FVec Ideal s .f32} {b : FVec Ideal s .f32} (hb : ∀ i, b i = ⊤) (i : s.Idx)
    (h : cmpf .olt (Host.absf x) b i = 1) : IsReal (x i) := by
  refine IsReal.of_abs_lt ?_
  change BitVec.ofBool (decide (max (x i) (-x i) < b i)) = 1 at h
  rw [hb i] at h
  by_contra hn
  rw [decide_eq_false hn] at h
  exact absurd h (by decide)

/-- Choosing zero wherever the absolute value is not below infinity leaves real numbers. -/
theorem real_masked {x b z : FVec Ideal s .f32} (hb : ∀ i, b i = ⊤) (hz : AllReal z) :
    AllReal (Idealize.ShloMosaic.select (cmpf .olt (Host.absf x) b) x z) := fun i => by
  show IsReal (if cmpf .olt (Host.absf x) b i = 1 then x i else z i)
  split
  · next h => exact real_of_lt hb i h
  · exact hz i

/-- If the conjunction over all elements of the comparisons with infinity holds, the array is one of real numbers. -/
theorem real_of_all [Subsingleton t.Idx] {axes : List (Fin s.rank)} {x b : FVec Ideal s .f32} (hb : ∀ i, b i = ⊤) (init : IVec u 1)
    (h : s.ReducesTo axes t) (hu : 0 < u.numel) (j : t.Idx)
    (e : Host.reduce IntOp.andi (cmpf .olt (Host.absf x) b) init h hu j = 1#1) : AllReal x := fun i =>
  real_of_lt hb i (Host.reduce_andi_all _ _ h hu j e i)

end Cert.Attn

end
-- ==== Proof.Edges.lean ====
/- Where an edge's update lands in a scatter over the nodes, and which node a gather by the same (wrapped) word reads. -/
module

public import Idealize.ShloMosaic.PureOps
public import Idealize.ShloMosaic.Lib.ValueIdx

@[expose] public section

noncomputable section

namespace Cert.Attn

open Idealize.ShloMosaic Idealize.ShloMosaic.ValueIdx

/-- The index `(e, 0)` of the column of index words. -/
abbrev col {E : Nat} (e : Fin E) : (⟨2, ![E, 1]⟩ : Shape).Idx := ix2 e (0 : Fin 1)

/-- An update of a scatter of rows lands at a node and head only if its index word, read signed, is that node, and
    its own head is that head; and then it does. -/
theorem lands2 {N E H w : Nat} (d : ScatterDims ⟨2, ![N, H]⟩ ⟨2, ![E, 1]⟩ ⟨2, ![E, H]⟩)
    (huw : d.updateWindowDims = [1]) (hiw : d.insertedWindowDims = [0]) (hsd : d.scatterDimsToOperandDims = [0])
    (hiv : d.indexVectorDim = 1) (idx : IVec ⟨2, ![E, 1]⟩ w) (v : (⟨2, ![E, H]⟩ : Shape).Idx) (j : (⟨2, ![N, H]⟩ : Shape).Idx) :
    d.resultIdx? v idx = some j ↔ (idx (col (E := E) (v 0))).toInt = ((j 0).val : Int) ∧ (v 1).val = (j 1).val := by
  obtain ⟨uw, iw, sd, iv, wf⟩ := d
  obtain rfl : uw = [1] := huw
  obtain rfl : iw = [0] := hiw
  obtain rfl : sd = [0] := hsd
  obtain rfl : iv = 1 := hiv
  set d : ScatterDims ⟨2, ![N, H]⟩ ⟨2, ![E, 1]⟩ ⟨2, ![E, H]⟩ := ⟨[1], [0], [0], 1, wf⟩ with hd
  have w0 : d.window v 0 = 0 := rfl
  have w1 : d.window v 1 = (v 1).val := rfl
  have s1 : d.start v idx 1 = 0 := rfl
  have s0 : d.start v idx 0 = (idx (col (E := E) (v 0))).toInt := by
    have : ∀ c, d.siIdx v c = col (E := E) (v 0) := fun c => funext fun b => Fin.ext (by
      match b with
      | ⟨0, _⟩ => rfl
      | ⟨1, _⟩ => have := c.isLt; show c.val = 0; change c.val < 1 at this; omega)
    show (idx (d.siIdx v _)).toInt = _
    rw [this]
  have j0 : (j 0).val < N := (j 0).isLt
  have v1 : (v 1).val < H := (v 1).isLt
  unfold ScatterDims.resultIdx?
  split
  · next h =>
    rw [Option.some.injEq]
    have h0 := h 0
    rw [s0, w0] at h0
    constructor
    · intro e
      have e0 := congrArg Fin.val (congrFun e 0)
      have e1 := congrArg Fin.val (congrFun e 1)
      change (d.start v idx 0 + (d.window v 0 : Int)).toNat = (j 0).val at e0
      change (d.start v idx 1 + (d.window v 1 : Int)).toNat = (j 1).val at e1
      rw [s0, w0] at e0
      rw [s1, w1] at e1
      omega
    · rintro ⟨e0, e1⟩
      refine funext fun a => Fin.ext ?_
      match a with
      | ⟨0, _⟩ => show (d.start v idx 0 + (d.window v 0 : Int)).toNat = (j 0).val; rw [s0, w0]; omega
      | ⟨1, _⟩ => show (d.start v idx 1 + (d.window v 1 : Int)).toNat = (j 1).val; rw [s1, w1]; omega
  · next h =>
    constructor
    · intro e; cases e
    · rintro ⟨e0, e1⟩
      refine (h fun a => ?_).elim
      match a with
      | ⟨0, _⟩ =>
        show 0 ≤ d.start v idx 0 + (d.window v 0 : Int) ∧ d.start v idx 0 + (d.window v 0 : Int) < (N : Int)
        rw [s0, w0]; omega
      | ⟨1, _⟩ =>
        show 0 ≤ d.start v idx 1 + (d.window v 1 : Int) ∧ d.start v idx 1 + (d.window v 1 : Int) < (H : Int)
        rw [s1, w1]; omega

/-- An update of a scatter of matrices that lands at a node has that node as its index word, read signed, and its own
    head and channel. -/
theorem lands3 {N E H C w : Nat} (d : ScatterDims ⟨3, ![N, H, C]⟩ ⟨2, ![E, 1]⟩ ⟨3, ![E, H, C]⟩)
    (huw : d.updateWindowDims = [1, 2]) (hiw : d.insertedWindowDims = [0]) (hsd : d.scatterDimsToOperandDims = [0])
    (hiv : d.indexVectorDim = 1) (idx : IVec ⟨2, ![E, 1]⟩ w) (v : (⟨3, ![E, H, C]⟩ : Shape).Idx) (j : (⟨3, ![N, H, C]⟩ : Shape).Idx)
    (hl : d.resultIdx? v idx = some j) : (idx (col (E := E) (v 0))).toInt = ((j 0).val : Int) ∧ (v 1).val = (j 1).val := by
  obtain ⟨uw, iw, sd, iv, wf⟩ := d
  obtain rfl : uw = [1, 2] := huw
  obtain rfl : iw = [0] := hiw
  obtain rfl : sd = [0] := hsd
  obtain rfl : iv = 1 := hiv
  set d : ScatterDims ⟨3, ![N, H, C]⟩ ⟨2, ![E, 1]⟩ ⟨3, ![E, H, C]⟩ := ⟨[1, 2], [0], [0], 1, wf⟩ with hd
  have w0 : d.window v 0 = 0 := rfl
  have w1 : d.window v 1 = (v 1).val := rfl
  have s1 : d.start v idx 1 = 0 := rfl
  have s0 : d.start v idx 0 = (idx (col (E := E) (v 0))).toInt := by
    have : ∀ c, d.siIdx v c = col (E := E) (v 0) := fun c => funext fun b => Fin.ext (by
      match b with
      | ⟨0, _⟩ => rfl
      | ⟨1, _⟩ => have := c.isLt; show c.val = 0; change c.val < 1 at this; omega)
    show (idx (d.siIdx v _)).toInt = _
    rw [this]
  unfold ScatterDims.resultIdx? at hl
  split at hl
  · next h =>
    have h0 := h 0
    rw [s0, w0] at h0
    have e0 := congrArg Fin.val (congrFun (Option.some.inj hl) 0)
    have e1 := congrArg Fin.val (congrFun (Option.some.inj hl) 1)
    change (d.start v idx 0 + (d.window v 0 : Int)).toNat = (j 0).val at e0
    change (d.start v idx 1 + (d.window v 1 : Int)).toNat = (j 1).val at e1
    rw [s0, w0] at e0
    rw [s1, w1] at e1
    omega
  · cases hl

/-- A gather of rows reads, for an index word that is a node's number, that node's row at its own head. -/
theorem reads2 {N E H w : Nat} (d : GatherDims ⟨2, ![N, H]⟩ ⟨2, ![E, 1]⟩ ⟨2, ![E, H]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, H]) (idx : IVec ⟨2, ![E, 1]⟩ w) (v : (⟨2, ![E, H]⟩ : Shape).Idx) (j : (⟨2, ![N, H]⟩ : Shape).Idx)
    (h0 : (idx (col (E := E) (v 0))).toInt = ((j 0).val : Int)) (h1 : (v 1).val = (j 1).val) : d.operandIdx v idx = j := by
  obtain ⟨od, cs, ob, sb, sm, iv, ss, wf⟩ := d
  obtain rfl : od = [1] := hod
  obtain rfl : cs = [0] := hcs
  obtain rfl : ob = [] := hob
  obtain rfl : sb = [] := hsb
  obtain rfl : sm = [0] := hsm
  obtain rfl : iv = 1 := hiv
  obtain rfl : ss = ![1, H] := hss
  set d : GatherDims ⟨2, ![N, H]⟩ ⟨2, ![E, 1]⟩ ⟨2, ![E, H]⟩ := ⟨[1], [0], [], [], [0], 1, ![1, H], wf⟩ with hd
  have hs : ∀ c, d.siIdx v c = col (E := E) (v 0) := fun c => funext fun b => Fin.ext (by
    match b with
    | ⟨0, _⟩ => rfl
    | ⟨1, _⟩ => have := c.isLt; show c.val = 0; change c.val < 1 at this; omega)
  have j0 : (j 0).val < N := (j 0).isLt
  refine funext fun a => Fin.ext ?_
  match a with
  | ⟨0, _⟩ =>
    show min (idx (d.siIdx v _)).toInt.toNat (N - 1) + 0 + 0 = (j 0).val
    rw [hs]; omega
  | ⟨1, _⟩ =>
    show 0 + 0 + (v 1).val = (j 1).val
    omega

end Cert.Attn

end
-- ==== Proof.Layer.lean ====
/- One attention layer over the graph, for any number of heads and channels: the edges' words, and the equation of the
   kernel's quotient of sums with the reference's sum of quotients. -/
module

public import proofs.«01_k».proof.Proof.Finite
public import proofs.«01_k».proof.Proof.Edges
public import proofs.«01_k».proof.Proof.Gen.ReferenceIdeal.Read

@[expose] public section

noncomputable section

namespace Cert.Attn

open Idealize.ShloMosaic Idealize.ShloMosaic.ValueIdx Cert.ReferenceIdeal Cert.ReferenceIdeal.Read

variable (x1 : IVec S2x320000 32)

/-- The words of the reference's target column are the words of its target list. -/
theorem target_col (e : Fin 330000) : val_main_v55 (F := Ideal) x1 (col e) = val_main_v6 (F := Ideal) x1 (ix1 e) := by
  rw [val_main_v55_apply]
  exact congrArg _ (funext fun a => Fin.ext (by match a with | ⟨0, _⟩ => rfl))

/-- A target word that is not negative is left alone by the wrapping of negative words. -/
theorem wrapped_col (e : Fin 330000) (n : Nat) (h : (val_main_v55 (F := Ideal) x1 (col e)).toInt = (n : Int)) :
    (val_main_v50 (F := Ideal) x1 (col e)).toInt = (n : Int) := by
  have e0 : val_main_v50 (F := Ideal) x1 (col e) = val_main_v49 (F := Ideal) x1 (ix1 e) := by
    rw [val_main_v50_apply]
    exact congrArg _ (funext fun a => Fin.ext (by match a with | ⟨0, _⟩ => rfl))
  rw [target_col] at h
  have hs : ¬ IntOp.cmpi .slt (val_main_v6 (F := Ideal) x1 (ix1 e)) (0#32) = 1 := by
    have : (val_main_v6 (F := Ideal) x1 (ix1 e)).slt 0#32 = false := by
      rw [BitVec.slt, h]
      exact decide_eq_false (by simp)
    show ¬ BitVec.ofBool ((val_main_v6 (F := Ideal) x1 (ix1 e)).slt 0#32) = 1
    rw [this]; decide
  rw [e0, val_main_v49_apply, val_main_v46_apply]
  have hz : val_main_v45 (F := Ideal) (ix1 e) = 0#32 := rfl
  rw [hz, Scalar.select, if_neg hs, h]

/-- The self edge of a node is one of the edges. -/
theorem loop_lt (n : Fin 10000) : 320000 + n.val < 330000 := by omega

/-- The words at the end of the target list are the nodes' own numbers: every node has an edge to itself. -/
theorem loop_col (n : Fin 10000) :
    (val_main_v55 (F := Ideal) x1 (col (E := 330000) ⟨320000 + n.val, loop_lt n⟩)).toInt = (n.val : Int) := by
  rw [target_col]
  have : val_main_v6 (F := Ideal) x1 (ix1 (⟨320000 + n.val, loop_lt n⟩ : Fin 330000)) = BitVec.ofNat 32 n.val := by
    unfold val_main_v6
    exact concatenate_pair_apply_right (t := S330000) (s₁ := S320000) (s₂ := S10000) 0 _ _ _ _ rfl rfl (ix1 n)
      (fun b hb => absurd (Subsingleton.elim _ _) hb) (Nat.add_comm _ _)
  have hn := n.isLt
  rw [this, BitVec.toInt_eq_toNat_of_lt (by rw [BitVec.toNat_ofNat]; omega), BitVec.toNat_ofNat]
  omega

/-- A broadcast of a matrix along a new last axis reads the matrix at the first two coordinates. -/
theorem bcast_tail {A B C : Nat} {α : Type} (h1 : (⟨2, ![A, B]⟩ : Shape).BroadcastsInDim ⟨3, ![A, B, 1]⟩ ![0, 1])
    (h2 : (⟨3, ![A, B, 1]⟩ : Shape).BroadcastsInDim ⟨3, ![A, B, C]⟩ ![0, 1, 2]) (x : (⟨2, ![A, B]⟩ : Shape).Idx → α)
    (u : (⟨3, ![A, B, C]⟩ : Shape).Idx) :
    broadcastInDim ⟨3, ![A, B, C]⟩ ![0, 1, 2] h2 (broadcastInDim ⟨3, ![A, B, 1]⟩ ![0, 1] h1 x) u
      = x (ix2 (n0 := A) (n1 := B) (u 0) (u 1)) := by
  have u0 : (u 0).val < A := (u 0).isLt
  have u1 : (u 1).val < B := (u 1).isLt
  rw [broadcastInDim_apply _ h2 _ u (ix3 (n0 := A) (n1 := B) (n2 := 1) (u 0) (u 1) 0) fun a => by
    match a with
    | ⟨0, _⟩ => show (u 0).val = if A = 1 then 0 else (u 0).val; split <;> omega
    | ⟨1, _⟩ => show (u 1).val = if B = 1 then 0 else (u 1).val; split <;> omega
    | ⟨2, _⟩ => rfl]
  rw [broadcastInDim_apply _ h1 _ _ (ix2 (n0 := A) (n1 := B) (u 0) (u 1)) fun a => by
    match a with
    | ⟨0, _⟩ => show (u 0).val = if A = 1 then 0 else (u 0).val; split <;> omega
    | ⟨1, _⟩ => show (u 1).val = if B = 1 then 0 else (u 1).val; split <;> omega]

/-- One layer with `H` heads of `C` channels. The numerators (messages weighted by the exponentials) divided by the
    denominators (sums of exponentials) are the sums of the messages weighted by the softmax over a node's incoming edges,
    the exponents there less any real number of the node and head; and the value is a real number. -/
theorem layer_core {H C : Nat} (d3 : ScatterDims ⟨3, ![10000, H, C]⟩ ⟨2, ![330000, 1]⟩ ⟨3, ![330000, H, C]⟩)
    (d2 : ScatterDims ⟨2, ![10000, H]⟩ ⟨2, ![330000, 1]⟩ ⟨2, ![330000, H]⟩)
    (dG : GatherDims ⟨2, ![10000, H]⟩ ⟨2, ![330000, 1]⟩ ⟨2, ![330000, H]⟩)
    (h3 : d3.updateWindowDims = [1, 2] ∧ d3.insertedWindowDims = [0] ∧ d3.scatterDimsToOperandDims = [0] ∧ d3.indexVectorDim = 1)
    (h2 : d2.updateWindowDims = [1] ∧ d2.insertedWindowDims = [0] ∧ d2.scatterDimsToOperandDims = [0] ∧ d2.indexVectorDim = 1)
    (hG : dG.offsetDims = [1] ∧ dG.collapsedSliceDims = [0] ∧ dG.operandBatchingDims = [] ∧ dG.startIndicesBatchingDims = []
      ∧ dG.startIndexMap = [0] ∧ dG.indexVectorDim = 1 ∧ dG.sliceSizes = ![1, H])
    (b1 : (⟨2, ![330000, H]⟩ : Shape).BroadcastsInDim ⟨3, ![330000, H, 1]⟩ ![0, 1])
    (b2 : (⟨3, ![330000, H, 1]⟩ : Shape).BroadcastsInDim ⟨3, ![330000, H, C]⟩ ![0, 1, 2])
    (b3 : (⟨2, ![10000, H]⟩ : Shape).BroadcastsInDim ⟨3, ![10000, H, 1]⟩ ![0, 1])
    (b4 : (⟨3, ![10000, H, 1]⟩ : Shape).BroadcastsInDim ⟨3, ![10000, H, C]⟩ ![0, 1, 2])
    (xj : FVec Ideal ⟨3, ![330000, H, C]⟩ .f32) (al : FVec Ideal ⟨2, ![330000, H]⟩ .f32) (mx z2 : FVec Ideal ⟨2, ![10000, H]⟩ .f32)
    (z3 : FVec Ideal ⟨3, ![10000, H, C]⟩ .f32)
    (hx : AllReal xj) (hal : AllReal al) (hmx : AllReal mx) (hz3 : ∀ j, z3 j = 0) (hz2 : ∀ j, z2 j = 0)
    (er : FVec Ideal ⟨2, ![330000, H]⟩ .f32) (her : er = Host.exp (subf al (Host.gather dG mx (val_main_v50 (F := Ideal) x1)))) :
    Host.divf (Host.scatterAdd d3 z3 (val_main_v55 (F := Ideal) x1)
        (mulf xj (broadcastInDim ⟨3, ![330000, H, C]⟩ ![0, 1, 2] b2 (broadcastInDim ⟨3, ![330000, H, 1]⟩ ![0, 1] b1 (Host.exp al)))))
      (broadcastInDim ⟨3, ![10000, H, C]⟩ ![0, 1, 2] b4 (broadcastInDim ⟨3, ![10000, H, 1]⟩ ![0, 1] b3
        (Host.scatterAdd d2 z2 (val_main_v55 (F := Ideal) x1) (Host.exp al))))
      = Host.scatterAdd d3 z3 (val_main_v55 (F := Ideal) x1) (mulf xj (broadcastInDim ⟨3, ![330000, H, C]⟩ ![0, 1, 2] b2
          (broadcastInDim ⟨3, ![330000, H, 1]⟩ ![0, 1] b1
            (Host.divf er (Host.gather dG (Host.scatterAdd d2 z2 (val_main_v55 (F := Ideal) x1) er) (val_main_v50 (F := Ideal) x1))))))
    ∧ AllReal (Host.scatterAdd d3 z3 (val_main_v55 (F := Ideal) x1) (mulf xj (broadcastInDim ⟨3, ![330000, H, C]⟩ ![0, 1, 2] b2
          (broadcastInDim ⟨3, ![330000, H, 1]⟩ ![0, 1] b1
            (Host.divf er (Host.gather dG (Host.scatterAdd d2 z2 (val_main_v55 (F := Ideal) x1) er) (val_main_v50 (F := Ideal) x1))))))) := by
  obtain ⟨h30, h31, h32, h33⟩ := h3
  obtain ⟨h20, h21, h22, h23⟩ := h2
  obtain ⟨g0, g1, g2, g3, g4, g5, g6⟩ := hG
  have key := fun j : (⟨3, ![10000, H, C]⟩ : Shape).Idx => layer_agree d3 d2 (val_main_v55 (F := Ideal) x1)
    (fun u => ix2 (n0 := 330000) (n1 := H) (u 0) (u 1)) (fun j => ix2 (n0 := 10000) (n1 := H) (j 0) (j 1))
    (fun v => dG.operandIdx v (val_main_v50 (F := Ideal) x1))
    (fun u j hl => by
      obtain ⟨e0, e1⟩ := lands3 d3 h30 h31 h32 h33 _ u j hl
      exact reads2 dG g0 g1 g2 g3 g4 g5 g6 _ _ (ix2 (n0 := 10000) (n1 := H) (j 0) (j 1)) (wrapped_col x1 _ _ e0) e1)
    (fun v j hl => by
      obtain ⟨e0, e1⟩ := (lands2 d2 h20 h21 h22 h23 _ v j).1 hl
      exact reads2 dG g0 g1 g2 g3 g4 g5 g6 _ _ j (wrapped_col x1 _ _ e0) e1)
    (fun j => ⟨ix2 (n0 := 330000) (n1 := H) ⟨320000 + (j 0).val, loop_lt (j 0)⟩ (j 1),
      (lands2 d2 h20 h21 h22 h23 _ _ j).2 ⟨loop_col x1 (j 0), rfl⟩⟩)
    xj _ _ _ al _ er mx z2 z3 hx hal hmx hz3 hz2
    (fun u => congrArg (xj u * ·) (bcast_tail b1 b2 (Host.exp al) u)) (fun _ => rfl) (fun v => by rw [her]; rfl)
    (fun u => bcast_tail b1 b2 (Host.divf er (Host.gather dG (Host.scatterAdd d2 z2 (val_main_v55 (F := Ideal) x1) er)
      (val_main_v50 (F := Ideal) x1))) u) (fun _ => rfl) j
  exact ⟨funext fun j => (congrArg (Ideal.div _) (bcast_tail b3 b4 _ j)).trans (key j).1, fun j => (key j).2⟩

end Cert.Attn

end
-- ==== Proof.KernelHost.lean ====
/- What the kernel's host operations leave in the buffers the rest of the program reads. The line is cut where its
   functions are called; each piece is read on its own. Stages the kernel shares with the reference are named by the
   reference's own stages. -/
module

public import proofs.«01_k».proof.Proof.Gen.KernelIdeal.Frame
public import proofs.«01_k».proof.Proof.Gen.ReferenceIdeal.Read
public import Idealize.ShloMosaic.Lib.StableHlo.RunRead

@[expose] public section

set_option maxRecDepth 4000

noncomputable section

namespace Cert.KernelIdeal.Host

open Cert.KernelIdeal Cert.KernelIdeal.Gen Idealize.ShloMosaic Idealize.ShloMosaic.TcCoe Idealize.ShloMosaic.StableHlo

local notation "RV" => Valuation τ sig (Elt Ideal)

variable (m : (ℓ : Loc nD τ sig) → Buf (Elt Ideal) ℓ) (c : Dev nD)

/-- The buffers after the first piece of the host line. -/
def W1 : RV := after hostOps0 (fun b => m (c, b))
/-- The buffers after the second piece. -/
def W2 : RV := after hostOps0_1 (W1 m c)
/-- The buffers after the third piece. -/
def W3 : RV := after hostOps0_2 (W2 m c)
/-- The buffers after the fourth piece. -/
def W4 : RV := after hostOps0_3 (W3 m c)
/-- The buffers after the fifth piece. -/
def W5 : RV := after hostOps0_4 (W4 m c)
/-- The buffers after the sixth piece. -/
def W6 : RV := after hostOps0_5 (W5 m c)
/-- The buffers after the seventh piece. -/
def W7 : RV := after hostOps0_6 (W6 m c)
/-- The buffers after the eighth piece. -/
def W8 : RV := after hostOps0_7 (W7 m c)
/-- The buffers after the ninth piece. -/
def W9 : RV := after hostOps0_8 (W8 m c)

/-- The array of argument 0. -/
abbrev a0 : FVec Ideal S10000x128 .f32 := m (c, Proc.devRef .tc main_arg0)
/-- The array of argument 1. -/
abbrev a1 : IVec S2x320000 32 := m (c, Proc.devRef .tc main_arg1)
/-- The array of argument 2. -/
abbrev a2 : FVec Ideal S128x512 .f32 := m (c, Proc.devRef .tc main_arg2)
/-- The array of argument 3. -/
abbrev a3 : FVec Ideal S128x512 .f32 := m (c, Proc.devRef .tc main_arg3)
/-- The array of argument 4. -/
abbrev a4 : FVec Ideal S8x64 .f32 := m (c, Proc.devRef .tc main_arg4)
/-- The array of argument 5. -/
abbrev a5 : FVec Ideal S512 .f32 := m (c, Proc.devRef .tc main_arg5)
/-- The array of argument 6. -/
abbrev a6 : FVec Ideal S512x64 .f32 := m (c, Proc.devRef .tc main_arg6)
/-- The array of argument 7. -/
abbrev a7 : FVec Ideal S512x64 .f32 := m (c, Proc.devRef .tc main_arg7)
/-- The array of argument 8. -/
abbrev a8 : FVec Ideal S1x64 .f32 := m (c, Proc.devRef .tc main_arg8)
/-- The array of argument 9. -/
abbrev a9 : FVec Ideal S64 .f32 := m (c, Proc.devRef .tc main_arg9)
/-- The array of argument 10. -/
abbrev a10 : FVec Ideal S192x40 .f32 := m (c, Proc.devRef .tc main_arg10)
/-- The array of argument 11. -/
abbrev a11 : FVec Ideal S40 .f32 := m (c, Proc.devRef .tc main_arg11)

/-- The buffers the region finds are the buffers after the last piece. -/
theorem V_eq (b : Ref sig .tc) : V m c b = W9 m c (Proc.devRef .tc b) := by
  unfold W9 W8 W7 W6 W5 W4 W3 W2 W1
  simp only [V, List.flatten_cons, List.flatten_nil, List.append_nil, after_append]

/-! ## The first layer's messages -/

/-- After the first piece the buffer of the edges' tails, the self loops among them holds the reference's array. -/
theorem W1_v3 : W1 m c (no_index (Proc.devRef .tc main_v3)) = Cert.ReferenceIdeal.Read.val_main_v3 (F := Ideal) (a1 m c) := by
  unfold W1; after_reads_simp; rfl
/-- After the first piece the buffer of the edges' heads, the self loops among them holds the reference's array. -/
theorem W1_v6 : W1 m c (no_index (Proc.devRef .tc main_v6)) = Cert.ReferenceIdeal.Read.val_main_v6 (F := Ideal) (a1 m c) := by
  unfold W1; after_reads_simp; rfl
/-- After the first piece the buffer of the first layer's messages holds the reference's array. -/
theorem W1_v17 : W1 m c (no_index (Proc.devRef .tc main_v17)) = Cert.ReferenceIdeal.Read.val_main_v17 (F := Ideal) (a0 m c) (a1 m c) (a2 m c) := by
  unfold W1; after_reads_simp; rfl
/-- After the first piece the buffer of the first layer's sums of source and target features holds the reference's array. -/
theorem W1_v25 : W1 m c (no_index (Proc.devRef .tc main_v25))
    = Cert.ReferenceIdeal.Read.val_main_v25 (F := Ideal) (a0 m c) (a1 m c) (a2 m c) (a3 m c) := by
  unfold W1; after_reads_simp; rfl
/-- After the first piece the buffer of the rectifier's slope holds the reference's array. -/
theorem W1_cst : W1 m c (no_index (Proc.devRef .tc main_cst)) = Cert.ReferenceIdeal.Read.val_main_cst (F := Ideal) := by
  unfold W1; after_reads_simp; rfl

/-! ## The argument arrays and the buffers kept from one piece to the next -/

/-- The first 2 pieces leave argument 4 as it was. -/
theorem W2_arg4 : W2 m c (no_index (Proc.devRef .tc main_arg4)) = a4 m c := by
  unfold W2 W1; after_reads_simp
/-- The first 2 pieces leave argument 5 as it was. -/
theorem W2_arg5 : W2 m c (no_index (Proc.devRef .tc main_arg5)) = a5 m c := by
  unfold W2 W1; after_reads_simp
/-- The first 4 pieces leave argument 6 as it was. -/
theorem W4_arg6 : W4 m c (no_index (Proc.devRef .tc main_arg6)) = a6 m c := by
  unfold W4 W3 W2 W1; after_reads_simp
/-- The first 4 pieces leave argument 7 as it was. -/
theorem W4_arg7 : W4 m c (no_index (Proc.devRef .tc main_arg7)) = a7 m c := by
  unfold W4 W3 W2 W1; after_reads_simp
/-- The first 6 pieces leave argument 8 as it was. -/
theorem W6_arg8 : W6 m c (no_index (Proc.devRef .tc main_arg8)) = a8 m c := by
  unfold W6 W5 W4 W3 W2 W1; after_reads_simp
/-- The first 6 pieces leave argument 9 as it was. -/
theorem W6_arg9 : W6 m c (no_index (Proc.devRef .tc main_arg9)) = a9 m c := by
  unfold W6 W5 W4 W3 W2 W1; after_reads_simp
/-- The first 8 pieces leave argument 0 as it was. -/
theorem W8_arg0 : W8 m c (no_index (Proc.devRef .tc main_arg0)) = a0 m c := by
  unfold W8 W7 W6 W5 W4 W3 W2 W1; after_reads_simp
/-- The first 8 pieces leave argument 11 as it was. -/
theorem W8_arg11 : W8 m c (no_index (Proc.devRef .tc main_arg11)) = a11 m c := by
  unfold W8 W7 W6 W5 W4 W3 W2 W1; after_reads_simp
/-- The second piece keeps the edges' heads, the self loops among them. -/
theorem W2_v6 : W2 m c (no_index (Proc.devRef .tc main_v6)) = W1 m c (no_index (Proc.devRef .tc main_v6)) := by
  unfold W2; after_reads_simp
/-- The third piece keeps the edges' heads, the self loops among them. -/
theorem W3_v6 : W3 m c (no_index (Proc.devRef .tc main_v6)) = W2 m c (no_index (Proc.devRef .tc main_v6)) := by
  unfold W3; after_reads_simp
/-- The fourth piece keeps the edges' heads, the self loops among them. -/
theorem W4_v6 : W4 m c (no_index (Proc.devRef .tc main_v6)) = W3 m c (no_index (Proc.devRef .tc main_v6)) := by
  unfold W4; after_reads_simp
/-- The fifth piece keeps the edges' heads, the self loops among them. -/
theorem W5_v6 : W5 m c (no_index (Proc.devRef .tc main_v6)) = W4 m c (no_index (Proc.devRef .tc main_v6)) := by
  unfold W5; after_reads_simp
/-- The sixth piece keeps the edges' heads, the self loops among them. -/
theorem W6_v6 : W6 m c (no_index (Proc.devRef .tc main_v6)) = W5 m c (no_index (Proc.devRef .tc main_v6)) := by
  unfold W6; after_reads_simp
/-- The second piece keeps the edges' tails, the self loops among them. -/
theorem W2_v3 : W2 m c (no_index (Proc.devRef .tc main_v3)) = W1 m c (no_index (Proc.devRef .tc main_v3)) := by
  unfold W2; after_reads_simp
/-- The third piece keeps the edges' tails, the self loops among them. -/
theorem W3_v3 : W3 m c (no_index (Proc.devRef .tc main_v3)) = W2 m c (no_index (Proc.devRef .tc main_v3)) := by
  unfold W3; after_reads_simp
/-- The fourth piece keeps the edges' tails, the self loops among them. -/
theorem W4_v3 : W4 m c (no_index (Proc.devRef .tc main_v3)) = W3 m c (no_index (Proc.devRef .tc main_v3)) := by
  unfold W4; after_reads_simp
/-- The second piece keeps the first layer's messages. -/
theorem W2_v17 : W2 m c (no_index (Proc.devRef .tc main_v17)) = W1 m c (no_index (Proc.devRef .tc main_v17)) := by
  unfold W2; after_reads_simp
/-- The sixth piece keeps the second layer's messages. -/
theorem W6_v59 : W6 m c (no_index (Proc.devRef .tc main_v59)) = W5 m c (no_index (Proc.devRef .tc main_v59)) := by
  unfold W6; after_reads_simp

/-! ## Leaky rectifier, first layer -/

/-- After the second piece the buffer of the first layer's rectified sums holds the reference's array. -/
theorem W2_v26 : W2 m c (no_index (Proc.devRef .tc main_v26)) = Cert.ReferenceIdeal.Read.val_main_v26 (F := Ideal) (a0 m c) (a1 m c) (a2 m c) (a3 m c) := by
  unfold W2; after_reads_simp; simp only [W1_v25, W1_cst]; simp -implicitDefEqProofs only [TRef.toBuf, TRef.ofBuf, cast_cast, cast_eq]; rfl

/-! ## The first layer -/

/-- The kernel's first layer before its activation, from the edges' heads, the messages and the scores: the sum of the
    messages times the exponentials over the sum of the exponentials, one row per node, and the bias added. -/
def layer1 (dst : IVec S330000 32) (xj : FVec Ideal S330000x8x64 .f32) (al : FVec Ideal S330000x8 .f32)
    (b : FVec Ideal S512 .f32) : FVec Ideal S10000x512 .f32 :=
  addf (shapeCast S10000x512 (Host.divf
      (Host.scatterAdd scatter_S10000x8x64_S330000x1_S330000x8x64_12_0_0_1
        (broadcastInDim S10000x8x64 ![] bcast_S_S10000x8x64 (constant S_ .f32 0x00000000#32))
        (broadcastInDim S330000x1 ![0] bcast_S330000_S330000x1_0 dst)
        (mulf xj (broadcastInDim S330000x8x64 ![0, 1, 2] bcast_S330000x8x1_S330000x8x64_0_1_2
          (broadcastInDim S330000x8x1 ![0, 1] bcast_S330000x8_S330000x8x1_0_1 (Host.exp al)))))
      (broadcastInDim S10000x8x64 ![0, 1, 2] bcast_S10000x8x1_S10000x8x64_0_1_2
        (broadcastInDim S10000x8x1 ![0, 1] bcast_S10000x8_S10000x8x1_0_1
          (Host.scatterAdd scatter_S10000x8_S330000x1_S330000x8_1_0_0_1
            (broadcastInDim S10000x8 ![] bcast_S_S10000x8 (constant S_ .f32 0x00000000#32))
            (broadcastInDim S330000x1 ![0] bcast_S330000_S330000x1_0 dst) (Host.exp al)))))
      shapeCasts_S10000x8x64_S10000x512)
    (broadcastInDim S10000x512 ![0, 1] bcast_S1x512_S10000x512_0_1 (broadcastInDim S1x512 ![1] bcast_S512_S1x512_1 b))

/-- After the third piece the first layer's buffer holds `layer1` of the reference's heads, messages and scores. -/
theorem W3_v47 : W3 m c (no_index (Proc.devRef .tc main_v47))
    = layer1 (Cert.ReferenceIdeal.Read.val_main_v6 (F := Ideal) (a1 m c)) (Cert.ReferenceIdeal.Read.val_main_v17 (F := Ideal) (a0 m c) (a1 m c) (a2 m c))
        (Cert.ReferenceIdeal.Read.val_main_v30 (F := Ideal) (a0 m c) (a1 m c) (a2 m c) (a3 m c) (a4 m c)) (a5 m c) := by
  unfold W3; after_reads_simp; simp only [W2_v26, W2_arg4, W2_arg5, W2_v17, W2_v6, W1_v17, W1_v6]; rfl

/-- The activation, and what follows it, given the first layer. -/
theorem W4_v48 (h : W3 m c (no_index (Proc.devRef .tc main_v47)) = Cert.ReferenceIdeal.Read.val_main_v74 (F := Ideal) (a0 m c) (a1 m c) (a2 m c) (a3 m c) (a4 m c) (a5 m c)) :
    W4 m c (no_index (Proc.devRef .tc main_v48)) = Cert.ReferenceIdeal.Read.val_main_v75 (F := Ideal) (a0 m c) (a1 m c) (a2 m c) (a3 m c) (a4 m c) (a5 m c) := by
  unfold W4; after_reads_simp; simp only [h]; simp -implicitDefEqProofs only [TRef.toBuf, TRef.ofBuf, cast_cast, cast_eq]; rfl

/-! ## The second layer -/

/-- After the fifth piece the buffer of the second layer's messages holds the reference's array, given what an earlier piece holds. -/
theorem W5_v59 (h : W4 m c (no_index (Proc.devRef .tc main_v48)) = Cert.ReferenceIdeal.Read.val_main_v75 (F := Ideal) (a0 m c) (a1 m c) (a2 m c) (a3 m c) (a4 m c) (a5 m c)) :
    W5 m c (no_index (Proc.devRef .tc main_v59)) = Cert.ReferenceIdeal.Read.val_main_v86 (F := Ideal) (a0 m c) (a1 m c) (a2 m c) (a3 m c) (a4 m c) (a5 m c) (a6 m c) := by
  unfold W5; after_reads_simp; simp only [h, W4_arg6, W4_v3, W3_v3, W2_v3, W1_v3]; rfl

/-- After the fifth piece the buffer of the second layer's sums of source and target features holds the reference's array, given what an earlier piece holds. -/
theorem W5_v67 (h : W4 m c (no_index (Proc.devRef .tc main_v48)) = Cert.ReferenceIdeal.Read.val_main_v75 (F := Ideal) (a0 m c) (a1 m c) (a2 m c) (a3 m c) (a4 m c) (a5 m c)) :
    W5 m c (no_index (Proc.devRef .tc main_v67)) = Cert.ReferenceIdeal.Read.val_main_v94 (F := Ideal) (a0 m c) (a1 m c) (a2 m c) (a3 m c) (a4 m c) (a5 m c) (a6 m c) (a7 m c) := by
  unfold W5; after_reads_simp
  simp only [h, W4_arg6, W4_arg7, W4_v3, W3_v3, W2_v3, W1_v3, W4_v6, W3_v6, W2_v6, W1_v6]; rfl

/-- After the fifth piece the buffer of the rectifier's slope holds the reference's array. -/
theorem W5_cst : W5 m c (no_index (Proc.devRef .tc main_cst_10)) = Cert.ReferenceIdeal.Read.val_main_cst (F := Ideal) := by
  unfold W5; after_reads_simp; rfl

/-- After the sixth piece the buffer of the second layer's rectified sums holds the reference's array, given what an earlier piece holds. -/
theorem W6_v68 (h : W4 m c (no_index (Proc.devRef .tc main_v48)) = Cert.ReferenceIdeal.Read.val_main_v75 (F := Ideal) (a0 m c) (a1 m c) (a2 m c) (a3 m c) (a4 m c) (a5 m c)) :
    W6 m c (no_index (Proc.devRef .tc main_v68)) = Cert.ReferenceIdeal.Read.val_main_v95 (F := Ideal) (a0 m c) (a1 m c) (a2 m c) (a3 m c) (a4 m c) (a5 m c) (a6 m c) (a7 m c) := by
  unfold W6; after_reads_simp; simp only [W5_v67 m c h, W5_cst]; simp -implicitDefEqProofs only [TRef.toBuf, TRef.ofBuf, cast_cast, cast_eq]; rfl

/-- The kernel's second layer before its activation, the same as the first with one head and 64 channels. -/
def layer2 (dst : IVec S330000 32) (xj : FVec Ideal S330000x1x64 .f32) (al : FVec Ideal S330000x1 .f32)
    (b : FVec Ideal S64 .f32) : FVec Ideal S10000x64 .f32 :=
  addf (shapeCast S10000x64 (Host.divf
      (Host.scatterAdd scatter_S10000x1x64_S330000x1_S330000x1x64_12_0_0_1
        (broadcastInDim S10000x1x64 ![] bcast_S_S10000x1x64 (constant S_ .f32 0x00000000#32))
        (broadcastInDim S330000x1 ![0] bcast_S330000_S330000x1_0 dst)
        (mulf xj (broadcastInDim S330000x1x64 ![0, 1, 2] bcast_S330000x1x1_S330000x1x64_0_1_2
          (broadcastInDim S330000x1x1 ![0, 1] bcast_S330000x1_S330000x1x1_0_1 (Host.exp al)))))
      (broadcastInDim S10000x1x64 ![0, 1, 2] bcast_S10000x1x1_S10000x1x64_0_1_2
        (broadcastInDim S10000x1x1 ![0, 1] bcast_S10000x1_S10000x1x1_0_1
          (Host.scatterAdd scatter_S10000x1_S330000x1_S330000x1_1_0_0_1
            (broadcastInDim S10000x1 ![] bcast_S_S10000x1 (constant S_ .f32 0x00000000#32))
            (broadcastInDim S330000x1 ![0] bcast_S330000_S330000x1_0 dst) (Host.exp al)))))
      shapeCasts_S10000x1x64_S10000x64)
    (broadcastInDim S10000x64 ![0, 1] bcast_S1x64_S10000x64_0_1 (broadcastInDim S1x64 ![1] bcast_S64_S1x64_1 b))

/-- After the seventh piece the second layer's buffer holds `layer2` of the reference's heads, messages and scores, given
    that the first layer's activation is the reference's. -/
theorem W7_v89 (h : W4 m c (no_index (Proc.devRef .tc main_v48)) = Cert.ReferenceIdeal.Read.val_main_v75 (F := Ideal) (a0 m c) (a1 m c) (a2 m c) (a3 m c) (a4 m c) (a5 m c)) :
    W7 m c (no_index (Proc.devRef .tc main_v89))
    = layer2 (Cert.ReferenceIdeal.Read.val_main_v6 (F := Ideal) (a1 m c)) (Cert.ReferenceIdeal.Read.val_main_v86 (F := Ideal) (a0 m c) (a1 m c) (a2 m c) (a3 m c) (a4 m c) (a5 m c) (a6 m c))
        (Cert.ReferenceIdeal.Read.val_main_v99 (F := Ideal) (a0 m c) (a1 m c) (a2 m c) (a3 m c) (a4 m c) (a5 m c) (a6 m c) (a7 m c) (a8 m c)) (a9 m c) := by
  unfold W7; after_reads_simp
  simp only [W6_v68 m c h, W6_arg8, W6_arg9, W6_v59, W5_v59 m c h, W6_v6, W5_v6, W4_v6, W3_v6, W2_v6, W1_v6]; rfl

/-- After the eighth piece the buffer of the second layer's activation holds the reference's array, given what an earlier piece holds. -/
theorem W8_v90 (h : W7 m c (no_index (Proc.devRef .tc main_v89)) = Cert.ReferenceIdeal.Read.val_main_v143 (F := Ideal) (a0 m c) (a1 m c) (a2 m c) (a3 m c) (a4 m c) (a5 m c) (a6 m c) (a7 m c) (a8 m c) (a9 m c)) :
    W8 m c (no_index (Proc.devRef .tc main_v90)) = Cert.ReferenceIdeal.Read.val_main_v144 (F := Ideal) (a0 m c) (a1 m c) (a2 m c) (a3 m c) (a4 m c) (a5 m c) (a6 m c) (a7 m c) (a8 m c) (a9 m c) := by
  unfold W8; after_reads_simp; simp only [h]; simp -implicitDefEqProofs only [TRef.toBuf, TRef.ofBuf, cast_cast, cast_eq]; rfl

/-! ## What the region finds -/

/-- After the ninth piece the buffer of the second layer beside the node features holds the reference's array, given what an earlier piece holds. -/
theorem W9_v91 (h : W8 m c (no_index (Proc.devRef .tc main_v90)) = Cert.ReferenceIdeal.Read.val_main_v144 (F := Ideal) (a0 m c) (a1 m c) (a2 m c) (a3 m c) (a4 m c) (a5 m c) (a6 m c) (a7 m c) (a8 m c) (a9 m c)) :
    W9 m c (no_index (Proc.devRef .tc main_v91)) = Cert.ReferenceIdeal.Read.val_main_v145 (F := Ideal) (a0 m c) (a1 m c) (a2 m c) (a3 m c) (a4 m c) (a5 m c) (a6 m c) (a7 m c) (a8 m c) (a9 m c) := by
  have hc : ∀ (x : FVec Ideal S10000x64 .f32) (y : FVec Ideal S10000x128 .f32),
      x = Cert.ReferenceIdeal.Read.val_main_v144 (F := Ideal) (a0 m c) (a1 m c) (a2 m c) (a3 m c) (a4 m c) (a5 m c) (a6 m c) (a7 m c) (a8 m c) (a9 m c)
      → y = a0 m c
      → concatenate S10000x192 1 [⟨S10000x64, x⟩, ⟨S10000x128, y⟩] concatenates_S10000x64_S10000x128_S10000x192_d1
        = Cert.ReferenceIdeal.Read.val_main_v145 (F := Ideal) (a0 m c) (a1 m c) (a2 m c) (a3 m c) (a4 m c) (a5 m c) (a6 m c) (a7 m c) (a8 m c) (a9 m c) := by
    rintro x y rfl rfl; rfl
  unfold W9; after_reads_simp; exact hc _ _ h (W8_arg0 m c)

/-- The region's bias is the bias argument as one row. -/
theorem W9_v92 : W9 m c (no_index (Proc.devRef .tc main_v92)) = shapeCast S1x40 (a11 m c) shapeCasts_S40_S1x40 := by
  unfold W9; after_reads_simp; simp only [W8_arg11]; rfl

end Cert.KernelIdeal.Host

end
-- ==== Proof.Layers.lean ====
/- The two attention layers: the kernel's layer on the reference's messages and scores is the reference's layer, and every
   stage holds real numbers when the inputs do. -/
module

public import proofs.«01_k».proof.Proof.Layer
public import proofs.«01_k».proof.Proof.KernelHost

@[expose] public section

noncomputable section

namespace Cert.Attn

open Idealize.ShloMosaic Idealize.ShloMosaic.ValueIdx Cert.ReferenceIdeal Cert.ReferenceIdeal.Read

variable (x0 : FVec Ideal S10000x128 .f32) (x1 : IVec S2x320000 32) (x2 x3 : FVec Ideal S128x512 .f32) (x4 : FVec Ideal S8x64 .f32)
  (x5 : FVec Ideal S512 .f32) (x6 x7 : FVec Ideal S512x64 .f32) (x8 : FVec Ideal S1x64 .f32) (x9 : FVec Ideal S64 .f32)

/-- The messages of the first layer are real numbers. -/
theorem real_v17 (h0 : AllReal x0) (h2 : AllReal x2) : AllReal (val_main_v17 (F := Ideal) x0 x1 x2) :=
  AllReal.gather _ (AllReal.reshape (AllReal.dot h0 h2) _) _

/-- The scores of the first layer are real numbers. -/
theorem real_v30 (h0 : AllReal x0) (h2 : AllReal x2) (h3 : AllReal x3) (h4 : AllReal x4) :
    AllReal (val_main_v30 (F := Ideal) x0 x1 x2 x3 x4) := by
  have h25 : AllReal (val_main_v25 (F := Ideal) x0 x1 x2 x3) :=
    (real_v17 x0 x1 x2 h0 h2).add (AllReal.gather _ (AllReal.reshape (AllReal.dot h0 h3) _) _)
  exact AllReal.reduceAdd (AllReal.mul (AllReal.select _ h25 (AllReal.mul (real_slope.bcast _ _) h25))
    ((h4.bcast _ _).bcast _ _)) real_zero _ _

/-- The numbers taken from the first layer's scores are real. -/
theorem real_v44 : AllReal (val_main_v44 (F := Ideal) x0 x1 x2 x3 x4) :=
  real_masked (fun _ => top_word) (real_zero.bcast _ _)

/-- The kernel's first layer is the reference's, and the reference's weighted sums are real numbers. -/
theorem layer1_eq (h0 : AllReal x0) (h2 : AllReal x2) (h3 : AllReal x3) (h4 : AllReal x4) :
    Cert.KernelIdeal.Host.layer1 (val_main_v6 (F := Ideal) x1) (val_main_v17 (F := Ideal) x0 x1 x2)
        (val_main_v30 (F := Ideal) x0 x1 x2 x3 x4) x5 = val_main_v74 (F := Ideal) x0 x1 x2 x3 x4 x5
      ∧ AllReal (val_main_v70 (F := Ideal) x0 x1 x2 x3 x4) := by
  have h := layer_core x1 scatter_S10000x8x64_S330000x1_S330000x8x64_12_0_0_1 scatter_S10000x8_S330000x1_S330000x8_1_0_0_1
    gather_S10000x8_S330000x1_S330000x8_1_0_n_n_0_1_18 ⟨rfl, rfl, rfl, rfl⟩ ⟨rfl, rfl, rfl, rfl⟩ ⟨rfl, rfl, rfl, rfl, rfl, rfl, rfl⟩
    Cert.ReferenceIdeal.Gen.bcast_S330000x8_S330000x8x1_0_1 Cert.ReferenceIdeal.Gen.bcast_S330000x8x1_S330000x8x64_0_1_2
    Cert.KernelIdeal.Gen.bcast_S10000x8_S10000x8x1_0_1 Cert.KernelIdeal.Gen.bcast_S10000x8x1_S10000x8x64_0_1_2
    (val_main_v17 (F := Ideal) x0 x1 x2) (val_main_v30 (F := Ideal) x0 x1 x2 x3 x4) (val_main_v44 (F := Ideal) x0 x1 x2 x3 x4)
    (val_main_v54 (F := Ideal)) (val_main_v68 (F := Ideal)) (real_v17 x0 x1 x2 h0 h2) (real_v30 x0 x1 x2 x3 x4 h0 h2 h3 h4)
    (real_v44 x0 x1 x2 x3 x4) (fun _ => Ideal.ofBits_zero_f32) (fun _ => Ideal.ofBits_zero_f32)
    (val_main_v53 (F := Ideal) x0 x1 x2 x3 x4) rfl
  have e1 := congrArg (fun z => addf (shapeCast S10000x512 z Cert.ReferenceIdeal.Gen.shapeCasts_S10000x8x64_S10000x512)
    (val_main_v73 (F := Ideal) x5)) h.1
  refine ⟨Eq.trans ?_ (e1.trans ?_), h.2⟩
  · unfold Cert.KernelIdeal.Host.layer1
    rfl
  · unfold val_main_v74 val_main_v71 val_main_v70 val_main_v67 val_main_v66 val_main_v65 val_main_v64 val_main_v63 val_main_v56
    rfl

/-- The first layer's result after its activation holds real numbers. -/
theorem real_v75 (h0 : AllReal x0) (h2 : AllReal x2) (h3 : AllReal x3) (h4 : AllReal x4) (h5 : AllReal x5) :
    AllReal (val_main_v75 (F := Ideal) x0 x1 x2 x3 x4 x5) := by
  have h70 : AllReal (val_main_v70 (F := Ideal) x0 x1 x2 x3 x4) :=
    (layer1_eq x0 x1 x2 x3 x4 x5 h0 h2 h3 h4).2
  have h74 : AllReal (val_main_v74 (F := Ideal) x0 x1 x2 x3 x4 x5) := AllReal.add (AllReal.reshape h70 _) ((h5.bcast _ _).bcast _ _)
  exact AllReal.select _ h74 (AllReal.mul (real_one.bcast _ _) (AllReal.expm1 (AllReal.select _ (real_zero.bcast _ _) h74)))

/-- The messages of the second layer are real numbers. -/
theorem real_v86 (h75 : AllReal (val_main_v75 (F := Ideal) x0 x1 x2 x3 x4 x5)) (h6 : AllReal x6) :
    AllReal (val_main_v86 (F := Ideal) x0 x1 x2 x3 x4 x5 x6) :=
  AllReal.gather _ (AllReal.reshape (AllReal.dot h75 h6) _) _

/-- The scores of the second layer are real numbers. -/
theorem real_v99 (h75 : AllReal (val_main_v75 (F := Ideal) x0 x1 x2 x3 x4 x5)) (h6 : AllReal x6) (h7 : AllReal x7) (h8 : AllReal x8) :
    AllReal (val_main_v99 (F := Ideal) x0 x1 x2 x3 x4 x5 x6 x7 x8) := by
  have h94 : AllReal (val_main_v94 (F := Ideal) x0 x1 x2 x3 x4 x5 x6 x7) :=
    (real_v86 x0 x1 x2 x3 x4 x5 x6 h75 h6).add (AllReal.gather _ (AllReal.reshape (AllReal.dot h75 h7) _) _)
  exact AllReal.reduceAdd (AllReal.mul (AllReal.select _ h94 (AllReal.mul (real_slope.bcast _ _) h94))
    ((h8.bcast _ _).bcast _ _)) real_zero _ _

/-- The numbers taken from the second layer's scores are real. -/
theorem real_v113 : AllReal (val_main_v113 (F := Ideal) x0 x1 x2 x3 x4 x5 x6 x7 x8) :=
  real_masked (fun _ => top_word) (real_zero.bcast _ _)

/-- The kernel's second layer is the reference's. -/
theorem layer2_eq (h75 : AllReal (val_main_v75 (F := Ideal) x0 x1 x2 x3 x4 x5)) (h6 : AllReal x6) (h7 : AllReal x7) (h8 : AllReal x8) :
    Cert.KernelIdeal.Host.layer2 (val_main_v6 (F := Ideal) x1) (val_main_v86 (F := Ideal) x0 x1 x2 x3 x4 x5 x6)
      (val_main_v99 (F := Ideal) x0 x1 x2 x3 x4 x5 x6 x7 x8) x9 = val_main_v143 (F := Ideal) x0 x1 x2 x3 x4 x5 x6 x7 x8 x9 := by
  have h := (layer_core x1 scatter_S10000x1x64_S330000x1_S330000x1x64_12_0_0_1 scatter_S10000x1_S330000x1_S330000x1_1_0_0_1
    gather_S10000x1_S330000x1_S330000x1_1_0_n_n_0_1_11 ⟨rfl, rfl, rfl, rfl⟩ ⟨rfl, rfl, rfl, rfl⟩ ⟨rfl, rfl, rfl, rfl, rfl, rfl, rfl⟩
    Cert.ReferenceIdeal.Gen.bcast_S330000x1_S330000x1x1_0_1 Cert.ReferenceIdeal.Gen.bcast_S330000x1x1_S330000x1x64_0_1_2
    Cert.KernelIdeal.Gen.bcast_S10000x1_S10000x1x1_0_1 Cert.KernelIdeal.Gen.bcast_S10000x1x1_S10000x1x64_0_1_2
    (val_main_v86 (F := Ideal) x0 x1 x2 x3 x4 x5 x6) (val_main_v99 (F := Ideal) x0 x1 x2 x3 x4 x5 x6 x7 x8) (val_main_v113 (F := Ideal) x0 x1 x2 x3 x4 x5 x6 x7 x8)
    (val_main_v123 (F := Ideal)) (val_main_v137 (F := Ideal)) (real_v86 x0 x1 x2 x3 x4 x5 x6 h75 h6)
    (real_v99 x0 x1 x2 x3 x4 x5 x6 x7 x8 h75 h6 h7 h8) (real_v113 x0 x1 x2 x3 x4 x5 x6 x7 x8)
    (fun _ => Ideal.ofBits_zero_f32) (fun _ => Ideal.ofBits_zero_f32)
    (val_main_v122 (F := Ideal) x0 x1 x2 x3 x4 x5 x6 x7 x8) rfl).1
  have e1 := congrArg (fun z => addf (shapeCast S10000x64 z Cert.ReferenceIdeal.Gen.shapeCasts_S10000x1x64_S10000x64)
    (val_main_v142 (F := Ideal) x9)) h
  refine Eq.trans ?_ (e1.trans ?_)
  · unfold Cert.KernelIdeal.Host.layer2
    rfl
  · unfold val_main_v143 val_main_v140 val_main_v139 val_main_v136 val_main_v135 val_main_v134 val_main_v133 val_main_v132 val_main_v125
    rfl

end Cert.Attn

end
-- ==== Proof.Region.lean ====
/- The pipelined region's output array: the classifier applied to the whole of the staged features. -/
module

public import proofs.«01_k».proof.Proof.Gen.KernelIdeal.Value
public import Idealize.ShloMosaic.Lib.IdealHost
public import Idealize.ShloMosaic.Lib.Pointwise
public import Idealize.ShloMosaic.Lib.Pipeline.ValueKit

@[expose] public section

noncomputable section

namespace Cert.KernelIdeal.Region

open Cert.KernelIdeal Cert.KernelIdeal.Gen Idealize.ShloMosaic Idealize.ShloMosaic.TcCoe

variable (m : (ℓ : Loc nD τ sig) → Buf (Elt Ideal) ℓ) (c : Dev nD)

/-- The classifier: features times weights, plus the bias row. -/
def linear (x : FVec Ideal S10000x192 .f32) (w : FVec Ideal S192x40 .f32) (b : FVec Ideal S1x40 .f32) : FVec Ideal S10000x40 .f32 :=
  fun i => (∑ k : Fin 192, x (ix2 (n0 := 10000) (i 0) k) * w (ix2 (n1 := 40) k (i 1))) + b (ix2 (n1 := 40) 0 (i 1))

/-- What one block computes: its rows times the weights, plus the bias row. -/
theorem payload (x : FVec Ideal S2000x192 .f32) (w : FVec Ideal S192x40 .f32) (b : FVec Ideal S1x40 .f32) (y : S2000x40.Idx) :
    k0_pay1 (F := Ideal) x w b y
      = (∑ k : Fin 192, x (ix2 (n0 := 2000) (y 0) k) * w (ix2 (n1 := 40) k (y 1))) + b (ix2 (n1 := 40) 0 (y 1)) := by
  have hm : FloatOps.matmul (F := Ideal) dot_S2000x192_S192x40_S2000x40_1_0_0_1_n_n none x w (constant S2000x40 .f32 0x00000000#32) y
      = ∑ k : Fin 192, x (ix2 (n0 := 2000) (y 0) k) * w (ix2 (n1 := 40) k (y 1)) := by
    rw [Ideal.matmul_constant_zero_apply]
    refine Fintype.sum_equiv (ValueIdx.contrEquiv1 dot_S2000x192_S192x40_S2000x40_1_0_0_1_n_n 192 rfl rfl) _ _ fun k => ?_
    congr 1
    · exact congrArg x (funext fun a => Fin.ext (by match a with | ⟨0, _⟩ => rfl | ⟨1, _⟩ => rfl))
    · exact congrArg w (funext fun a => Fin.ext (by match a with | ⟨0, _⟩ => rfl | ⟨1, _⟩ => rfl))
  have hb : broadcastTo S2000x40 b broadcasts_S1x40_S2000x40 y = b (ix2 (n1 := 40) 0 (y 1)) :=
    broadcastTo_apply b _ y _ fun a => by match a with | ⟨0, _⟩ => rfl | ⟨1, _⟩ => rfl
  rw [← hm, ← hb]
  unfold k0_pay1
  rw [shapeCast_self, shapeCast_self]
  rfl

/-- Where each window's block sits, at each of the five points. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The array after the region is the classifier of what the windows' arrays held when it began. -/
theorem region : (dats m 0 c).arrAt 3 cfg0.N = linear (V m c main_v91) (V m c main_arg10) (V m c main_v92) := by
  refine (dats m 0 c).arrAt_eq_of_covers 3 _ (by decide +kernel) fun t hf y => ?_
  blk_simp
  rw [after0_3]
  frame_out
  rw [payload]
  unfold linear
  blk_point [iblk, idx t]

end Cert.KernelIdeal.Region

end
-- ==== Proof.Agree.lean ====
/- The kernel's result array is the reference's result, where the inputs the precondition names are real numbers. -/
module

public import proofs.«01_k».proof.Proof.Layers
public import proofs.«01_k».proof.Proof.Region

@[expose] public section

noncomputable section

namespace Cert.KernelIdeal.Agree

open Cert.KernelIdeal Cert.KernelIdeal.Gen Cert.KernelIdeal.Host Idealize.ShloMosaic Idealize.ShloMosaic.TcCoe
open Cert.Attn Cert.ReferenceIdeal.Read

variable (m : (ℓ : Loc nD τ sig) → Buf (Elt Ideal) ℓ) (c : Dev nD)

/-- The reference's result as a function of the launch contents. -/
abbrev result : FVec Ideal S10000x40 .f32 :=
  val_main_v149 (F := Ideal) (a0 m c) (a1 m c) (a2 m c) (a3 m c) (a4 m c) (a5 m c) (a6 m c) (a7 m c) (a8 m c) (a9 m c) (a10 m c) (a11 m c)

/-- The classifier of the reference's features, weights and bias is the reference's result. -/
theorem linear_eq (x0 : FVec Ideal S10000x128 .f32) (x1 : IVec S2x320000 32) (x2 x3 : FVec Ideal S128x512 .f32)
    (x4 : FVec Ideal S8x64 .f32) (x5 : FVec Ideal S512 .f32) (x6 x7 : FVec Ideal S512x64 .f32) (x8 : FVec Ideal S1x64 .f32)
    (x9 : FVec Ideal S64 .f32) (x10 : FVec Ideal S192x40 .f32) (x11 : FVec Ideal S40 .f32) :
    Region.linear (val_main_v145 (F := Ideal) x0 x1 x2 x3 x4 x5 x6 x7 x8 x9) x10 (shapeCast S1x40 x11 shapeCasts_S40_S1x40)
      = val_main_v149 (F := Ideal) x0 x1 x2 x3 x4 x5 x6 x7 x8 x9 x10 x11 := by
  funext i
  rw [val_main_v149_apply, val_main_v146_apply, val_main_v148_apply, val_main_v147_apply]
  unfold Region.linear
  generalize val_main_v145 (F := Ideal) x0 x1 x2 x3 x4 x5 x6 x7 x8 x9 = f
  refine congrArg₂ (· + ·) (Finset.sum_congr rfl fun k _ => congrArg₂ (· * ·) (congrArg f ?_) (congrArg x10 ?_)) ?_
  · exact funext fun a => Fin.ext (by match a with | ⟨0, _⟩ => rfl | ⟨1, _⟩ => rfl)
  · exact funext fun a => Fin.ext (by match a with | ⟨0, _⟩ => rfl | ⟨1, _⟩ => rfl)
  · refine shapeCast_apply _ _ _ _ ?_
    rw [Shape.rowMajor_val_one, Shape.rowMajor_val_two]
    show (i 1).val = 0 * 40 + (i 1).val
    omega

/-- What the region leaves in the result array is the reference's result. -/
theorem array_eq (h0 : AllReal (a0 m c)) (h2 : AllReal (a2 m c)) (h3 : AllReal (a3 m c)) (h4 : AllReal (a4 m c))
    (h5 : AllReal (a5 m c)) (h6 : AllReal (a6 m c)) (h7 : AllReal (a7 m c)) (h8 : AllReal (a8 m c)) :
    (dats m 0 c).arrAt 3 cfg0.N = result m c := by
  have e47 := (W3_v47 m c).trans (layer1_eq _ _ _ _ _ _ h0 h2 h3 h4).1
  have e48 := W4_v48 m c e47
  have e89 := (W7_v89 m c e48).trans (layer2_eq _ _ _ _ _ _ _ _ _ _ (real_v75 _ _ _ _ _ _ h0 h2 h3 h4 h5) h6 h7 h8)
  have e91 := W9_v91 m c (W8_v90 m c e89)
  rw [Region.region, V_eq m c main_v91, e91, V_main_arg10, V_eq m c main_v92, W9_v92]
  exact linear_eq _ _ _ _ _ _ _ _ _ _ _ _

end Cert.KernelIdeal.Agree

end
-- ==== Proof.Pre.lean ====
/- The precondition read: the arrays it tests hold real numbers. -/
module

public import proofs.«01_k».proof.Defs
public import proofs.«01_k».proof.Proof.Finite

@[expose] public section

noncomputable section

namespace Cert.Pre_finite.Read

open Cert.Pre_finite Idealize.ShloMosaic Cert.Attn

/-- The shape relations the predicate's operations take hold. -/
instance facts : Cert.Pre_finite.Facts where
  bcast_S_S10000x128 := by decide
  reducesTo_S10000x128_S_d0_1 := by decide
  h_S_ := by decide
  bcast_S_S128x512 := by decide
  reducesTo_S128x512_S_d0_1 := by decide
  bcast_S_S8x64 := by decide
  reducesTo_S8x64_S_d0_1 := by decide
  bcast_S_S512 := by decide
  reducesTo_S512_S_d0 := by decide
  bcast_S_S512x64 := by decide
  reducesTo_S512x64_S_d0_1 := by decide
  bcast_S_S1x64 := by decide
  reducesTo_S1x64_S_d0_1 := by decide

/-- There is one index into a scalar. -/
instance : Subsingleton S_.Idx := ⟨fun _ _ => funext fun a => a.elim0⟩

/-- A conjunction of two one-bit scalars that holds holds in both. -/
theorem both (a b : IVec S_ 1) (j : S_.Idx) (h : andi a b j = 1#1) : a j = 1#1 ∧ b j = 1#1 := IntOp.andi_eq_one.1 h

variable (x0 : FVec Ideal S10000x128 .f32) (x1 : IVec S2x320000 32) (x2 x3 : FVec Ideal S128x512 .f32) (x4 : FVec Ideal S8x64 .f32)
  (x5 : FVec Ideal S512 .f32) (x6 x7 : FVec Ideal S512x64 .f32) (x8 : FVec Ideal S1x64 .f32) (x9 : FVec Ideal S64 .f32)
  (x10 : FVec Ideal S192x40 .f32) (x11 : FVec Ideal S40 .f32)

/-- Where the predicate holds, the features, both layers' weights and attention vectors, and the first bias are real. -/
theorem real_of_pre (j : S_.Idx) (h : Cert.Pre_finite.fn (F := Ideal) x0 x1 x2 x3 x4 x5 x6 x7 x8 x9 x10 x11 j = 1#1) :
    AllReal x0 ∧ AllReal x2 ∧ AllReal x3 ∧ AllReal x4 ∧ AllReal x5 ∧ AllReal x6 ∧ AllReal x7 ∧ AllReal x8 := by
  unfold Cert.Pre_finite.fn fn_part1 fn_part2 at h
  dsimp only at h
  obtain ⟨h, h8⟩ := both _ _ j h
  obtain ⟨h, h7⟩ := both _ _ j h
  obtain ⟨h, h6⟩ := both _ _ j h
  obtain ⟨h, h5⟩ := both _ _ j h
  obtain ⟨h, h4⟩ := both _ _ j h
  obtain ⟨h, h3⟩ := both _ _ j h
  obtain ⟨h0, h2⟩ := both _ _ j h
  exact ⟨real_of_all (fun _ => top_word) _ _ _ j h0, real_of_all (fun _ => top_word) _ _ _ j h2,
    real_of_all (fun _ => top_word) _ _ _ j h3, real_of_all (fun _ => top_word) _ _ _ j h4,
    real_of_all (fun _ => top_word) _ _ _ j h5, real_of_all (fun _ => top_word) _ _ _ j h6,
    real_of_all (fun _ => top_word) _ _ _ j h7, real_of_all (fun _ => top_word) _ _ _ j h8⟩

end Cert.Pre_finite.Read

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Agree
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem Cert.Attn

/-- The reference keeps its arguments and has no semaphore to leave raised. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the kernel's result array is the reference's result of the same arguments. -/
theorem kernel_array (m : (ℓ : Loc Cert.KernelIdeal.nD Cert.KernelIdeal.τ Cert.KernelIdeal.sig) → Buf (Elt Ideal) ℓ)
    (h : Cert.Pre_KernelIdeal_finite m) (c : Dev Cert.KernelIdeal.nD) :
    (Cert.KernelIdeal.Gen.dats (F := Ideal) m 0 c).arrAt 3 Cert.KernelIdeal.cfg0.N = Cert.KernelIdeal.Agree.result m c := by
  obtain ⟨h0, h2, h3, h4, h5, h6, h7, h8⟩ := Cert.Pre_finite.Read.real_of_pre _ _ _ _ _ _ _ _ _ _ _ _ _
    (congrFun (h c) (Shape.Idx.first Cert.Pre_finite.Facts.h_S_))
  exact Cert.KernelIdeal.Agree.array_eq m c h0 h2 h3 h4 h5 h6 h7 h8

/-- The two programs, run from the same arguments under the precondition, leave the same result. -/
theorem algebraic : Cert.algebraic_KernelIdeal_ReferenceIdeal_pre_finite := by
  intro m g m' g' hpre harg
  refine ⟨fun c => Cert.KernelIdeal.Agree.result m c, ?_, ?_⟩
  · exact (θ_run Cert.KernelIdeal.defs _ _).mono
      (fun r h c => ⟨(h c).1.trans (kernel_array m hpre c), (h c).2⟩) (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨e0, e1, e2, e3, e4, e5, e6, e7, e8, e9, e10, e11⟩ := harg c
    refine (Cert.ReferenceIdeal.Read.val_main_v149_eq (F := Ideal) (StableHlo.launchContents m' c)).trans ?_
    show Cert.ReferenceIdeal.Read.val_main_v149 (F := Ideal)
      (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) = _
    rw [e0, e1, e2, e3, e4, e5, e6, e7, e8, e9, e10, e11]

/-- The certificate. -/
theorem claim : Cert.Claim :=
  ⟨Cert.Kernel.Gen.facts, Cert.KernelIdeal.Gen.facts, Cert.ReferenceIdeal.Gen.facts, Cert.Pre_finite.Read.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, algebraic⟩

end Cert.Proof

end
